-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_v203) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x7168 : Shape := ⟨3, ![2, 4096, 7168]⟩
abbrev S7168 : Shape := ⟨1, ![7168]⟩
abbrev S2x4096 : Shape := ⟨2, ![2, 4096]⟩
abbrev S896x10240 : Shape := ⟨2, ![896, 10240]⟩
abbrev S56x10240 : Shape := ⟨2, ![56, 10240]⟩
abbrev S64 : Shape := ⟨1, ![64]⟩
abbrev S_ : Shape := ⟨0, ![]⟩
abbrev S64x2 : Shape := ⟨2, ![64, 2]⟩
abbrev S128 : Shape := ⟨1, ![128]⟩
abbrev S1x128 : Shape := ⟨2, ![1, 128]⟩
abbrev S8192x7168 : Shape := ⟨2, ![8192, 7168]⟩
abbrev S1x7168 : Shape := ⟨2, ![1, 7168]⟩
abbrev S8192x1 : Shape := ⟨2, ![8192, 1]⟩
abbrev S8192x128 : Shape := ⟨2, ![8192, 128]⟩
abbrev S256x7168 : Shape := ⟨2, ![256, 7168]⟩
abbrev S256x1 : Shape := ⟨2, ![256, 1]⟩
abbrev S256x128 : Shape := ⟨2, ![256, 128]⟩
abbrev S256 : Shape := ⟨1, ![256]⟩
abbrev S8192x64x128 : Shape := ⟨3, ![8192, 64, 128]⟩
abbrev S8192x8x128 : Shape := ⟨3, ![8192, 8, 128]⟩
abbrev S512x7168 : Shape := ⟨2, ![512, 7168]⟩
abbrev S896x1024 : Shape := ⟨2, ![896, 1024]⟩
abbrev S56x1024 : Shape := ⟨2, ![56, 1024]⟩
abbrev S512x128 : Shape := ⟨2, ![512, 128]⟩
abbrev S512x8x128 : Shape := ⟨3, ![512, 8, 128]⟩
abbrev S7168x1024 : Shape := ⟨2, ![7168, 1024]⟩
abbrev S16x1024 : Shape := ⟨2, ![16, 1024]⟩
abbrev S16x1x1024 : Shape := ⟨3, ![16, 1, 1024]⟩
abbrev S16x8x1024 : Shape := ⟨3, ![16, 8, 1024]⟩
abbrev S128x1024 : Shape := ⟨2, ![128, 1024]⟩
abbrev S1x1024 : Shape := ⟨2, ![1, 1024]⟩
abbrev S512x1024 : Shape := ⟨2, ![512, 1024]⟩
abbrev S512x1x128 : Shape := ⟨3, ![512, 1, 128]⟩
abbrev S2x4096x64x128 : Shape := ⟨4, ![2, 4096, 64, 128]⟩
abbrev S2x4096x8x128 : Shape := ⟨4, ![2, 4096, 8, 128]⟩

abbrev nBuf : Space → Nat
  | .hbm => 32
  | .vmem => 31
  | .smem => 0
  | _ => 0

abbrev bufTy : (tb : Table) → Fin (tcTables nBuf tb) → BufTy
  | .hbm, ⟨0, _⟩ => ⟨S2x4096x7168, .bf16⟩
  | .hbm, ⟨1, _⟩ => ⟨S7168, .f32⟩
  | .hbm, ⟨2, _⟩ => ⟨S2x4096, .i32⟩
  | .hbm, ⟨3, _⟩ => ⟨S896x10240, .i32⟩
  | .hbm, ⟨4, _⟩ => ⟨S56x10240, .bf16⟩
  | .hbm, ⟨5, _⟩ => ⟨S56x10240, .i8⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x2, .f32⟩
  | .hbm, ⟨18, _⟩ => ⟨S128, .f32⟩
  | .hbm, ⟨19, _⟩ => ⟨S1x128, .f32⟩
  | .hbm, ⟨20, _⟩ => ⟨S8192x7168, .bf16⟩
  | .hbm, ⟨21, _⟩ => ⟨S1x7168, .f32⟩
  | .hbm, ⟨22, _⟩ => ⟨S8192x1, .i32⟩
  | .hbm, ⟨23, _⟩ => ⟨S8192x7168, .bf16⟩
  | .hbm, ⟨24, _⟩ => ⟨S8192x128, .f32⟩
  | .hbm, ⟨25, _⟩ => ⟨S8192x128, .f32⟩
  | .hbm, ⟨26, _⟩ => ⟨S8192x64x128, .bf16⟩
  | .hbm, ⟨27, _⟩ => ⟨S8192x8x128, .bf16⟩
  | .hbm, ⟨28, _⟩ => ⟨S8192x8x128, .bf16⟩
  | .hbm, ⟨29, _⟩ => ⟨S2x4096x64x128, .bf16⟩
  | .hbm, ⟨30, _⟩ => ⟨S2x4096x8x128, .bf16⟩
  | .hbm, ⟨31, _⟩ => ⟨S2x4096x8x128, .bf16⟩
  | .local _ .vmem, ⟨0, _⟩ => ⟨S256x7168, .bf16⟩
  | .local _ .vmem, ⟨1, _⟩ => ⟨S256x7168, .bf16⟩
  | .local _ .vmem, ⟨2, _⟩ => ⟨S1x7168, .f32⟩
  | .local _ .vmem, ⟨3, _⟩ => ⟨S256x1, .i32⟩
  | .local _ .vmem, ⟨4, _⟩ => ⟨S256x1, .i32⟩
  | .local _ .vmem, ⟨5, _⟩ => ⟨S1x128, .f32⟩
  | .local _ .vmem, ⟨6, _⟩ => ⟨S256x7168, .bf16⟩
  | .local _ .vmem, ⟨7, _⟩ => ⟨S256x7168, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S512x7168, .bf16⟩
  | .local _ .vmem, ⟨13, _⟩ => ⟨S512x7168, .bf16⟩
  | .local _ .vmem, ⟨14, _⟩ => ⟨S896x1024, .i32⟩
  | .local _ .vmem, ⟨15, _⟩ => ⟨S896x1024, .i32⟩
  | .local _ .vmem, ⟨16, _⟩ => ⟨S56x1024, .bf16⟩
  | .local _ .vmem, ⟨17, _⟩ => ⟨S56x1024, .bf16⟩
  | .local _ .vmem, ⟨18, _⟩ => ⟨S56x1024, .i8⟩
  | .local _ .vmem, ⟨19, _⟩ => ⟨S56x1024, .i8⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x8x128, .bf16⟩
  | .local _ .vmem, ⟨25, _⟩ => ⟨S512x8x128, .bf16⟩
  | .local _ .vmem, ⟨26, _⟩ => ⟨S512x8x128, .bf16⟩
  | .local _ .vmem, ⟨27, _⟩ => ⟨S512x8x128, .bf16⟩
  | .local _ .vmem, ⟨28, _⟩ => ⟨S512x8x128, .bf16⟩
  | .local _ .vmem, ⟨29, _⟩ => ⟨S512x8x128, .bf16⟩
  | .local _ .vmem, ⟨30, _⟩ => ⟨S7168x1024, .bf16⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![10, 16], ![false, false]⟩

def k1_cond2 (i : grid1.Coords) : BitVec 1 :=
  let arg0 : BitVec 32 := BitVec.ofNat 32 (i 0).val
  let c8_i32 : BitVec 32 := 8#32
  let v105 : BitVec 1 := Scalar.cmpi .slt arg0 c8_i32
  let v106 : BitVec 32 := Scalar.extui v105
  let c0_i32_28 : BitVec 32 := 0#32
  let v107 : BitVec 1 := Scalar.cmpi .ne v106 c0_i32_28
  v107

def k1_cond3 (i : grid1.Coords) : BitVec 1 :=
  let arg0 : BitVec 32 := BitVec.ofNat 32 (i 0).val
  let c8_i32_29 : BitVec 32 := 8#32
  let v108 : BitVec 1 := Scalar.cmpi .eq arg0 c8_i32_29
  let v109 : BitVec 32 := Scalar.extui v108
  let c0_i32_30 : BitVec 32 := 0#32
  let v110 : BitVec 1 := Scalar.cmpi .ne v109 c0_i32_30
  v110

def k1_cond4 (i : grid1.Coords) : BitVec 1 :=
  let arg0 : BitVec 32 := BitVec.ofNat 32 (i 0).val
  let c9_i32 : BitVec 32 := 9#32
  let v30 : BitVec 1 := Scalar.cmpi .eq arg0 c9_i32
  let v111 : BitVec 32 := Scalar.extui v30
  let c0_i32_31 : BitVec 32 := 0#32
  let v112 : BitVec 1 := Scalar.cmpi .ne v111 c0_i32_31
  v112

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c15_i32 : BitVec 32 := 15#32
  let v1 : BitVec 32 := Scalar.select v0 arg1 c15_i32
  let c7_i32 : BitVec 32 := 7#32
  let v2 : BitVec 32 := Scalar.minsi arg0 c7_i32
  let c0_i32 : BitVec 32 := 0#32
  let c0_i32_0 : BitVec 32 := 0#32
  ![v1.toNat, v2.toNat, c0_i32.toNat]

def cc1_transform_7 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 1 := Scalar.cmpi .eq arg0 c8_i32_0
  let c15_i32 : BitVec 32 := 15#32
  let v2 : BitVec 32 := Scalar.select v1 arg1 c15_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![v3.toNat, c0_i32_1.toNat, c0_i32_2.toNat]

def cc1_transform_8 (i : grid1.Coords) : Fin 3 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c9_i32_0 : BitVec 32 := 9#32
  let v1 : BitVec 1 := Scalar.cmpi .eq arg0 c9_i32_0
  let c15_i32 : BitVec 32 := 15#32
  let v2 : BitVec 32 := Scalar.select v1 arg1 c15_i32
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  ![v3.toNat, c0_i32_1.toNat, c0_i32_2.toNat]

abbrev stage1_0 : Fin 2 → Memref sig .tc .vmem S512x7168 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S896x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S56x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S56x1024 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x8x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x8x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x8x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== ReferenceIdeal.lean ====
abbrev S2x4096x7168 : Shape := ⟨3, ![2, 4096, 7168]⟩
abbrev S7168 : Shape := ⟨1, ![7168]⟩
abbrev S2x4096 : Shape := ⟨2, ![2, 4096]⟩
abbrev S896x10240 : Shape := ⟨2, ![896, 10240]⟩
abbrev S56x10240 : Shape := ⟨2, ![56, 10240]⟩
abbrev S_ : Shape := ⟨0, ![]⟩
abbrev S2x4096x1 : Shape := ⟨3, ![2, 4096, 1]⟩
abbrev S1x1x7168 : Shape := ⟨3, ![1, 1, 7168]⟩
abbrev S2x4096x896x8 : Shape := ⟨4, ![2, 4096, 896, 8]⟩
abbrev S56x1x10240 : Shape := ⟨3, ![56, 1, 10240]⟩
abbrev S56x16x10240 : Shape := ⟨3, ![56, 16, 10240]⟩
abbrev S2x4096x896x1 : Shape := ⟨4, ![2, 4096, 896, 1]⟩
abbrev S2x4096x896 : Shape := ⟨3, ![2, 4096, 896]⟩
abbrev S2x4096x56x16 : Shape := ⟨4, ![2, 4096, 56, 16]⟩
abbrev S2x4096x10240 : Shape := ⟨3, ![2, 4096, 10240]⟩
abbrev S2x4096x8192 : Shape := ⟨3, ![2, 4096, 8192]⟩
abbrev S2x4096x64x128 : Shape := ⟨4, ![2, 4096, 64, 128]⟩
abbrev S2x4096x1024 : Shape := ⟨3, ![2, 4096, 1024]⟩
abbrev S2x4096x8x128 : Shape := ⟨4, ![2, 4096, 8, 128]⟩
abbrev S64 : Shape := ⟨1, ![64]⟩
abbrev S1x1x64 : Shape := ⟨3, ![1, 1, 64]⟩
abbrev S2x4096x64 : Shape := ⟨3, ![2, 4096, 64]⟩
abbrev S2x4096x1x64 : Shape := ⟨4, ![2, 4096, 1, 64]⟩
abbrev S2x4096x64x64x2 : Shape := ⟨5, ![2, 4096, 64, 64, 2]⟩
abbrev S2x4096x64x64x1 : Shape := ⟨5, ![2, 4096, 64, 64, 1]⟩
abbrev S2x4096x64x64 : Shape := ⟨4, ![2, 4096, 64, 64]⟩
abbrev S2x4096x8x64x2 : Shape := ⟨5, ![2, 4096, 8, 64, 2]⟩
abbrev S2x4096x8x64x1 : Shape := ⟨5, ![2, 4096, 8, 64, 1]⟩
abbrev S2x4096x8x64 : Shape := ⟨4, ![2, 4096, 8, 64]⟩

abbrev nBuf : Space → Nat
  | .hbm => 232
  | .vmem => 0
  | .smem => 0
  | _ => 0

abbrev hbmTy0_0 (i : Nat) : BufTy := match i % 128 with
  | 0 => ⟨S2x4096x7168, .bf16⟩
  | 1 => ⟨S7168, .f32⟩
  | 2 => ⟨S2x4096, .i32⟩
  | 3 => ⟨S896x10240, .i32⟩
  | 4 => ⟨S56x10240, .bf16⟩
  | 5 => ⟨S56x10240, .i8⟩
  | 6 => ⟨S2x4096x7168, .f32⟩
  | 7 => ⟨S2x4096x7168, .f32⟩
  | 8 => ⟨S_, .f32⟩
  | 9 => ⟨S2x4096, .f32⟩
  | 10 => ⟨S2x4096x1, .f32⟩
  | 11 => ⟨S_, .f32⟩
  | 12 => ⟨S2x4096x1, .f32⟩
  | 13 => ⟨S2x4096x1, .f32⟩
  | 14 => ⟨S_, .f32⟩
  | 15 => ⟨S2x4096x1, .f32⟩
  | 16 => ⟨S2x4096x1, .f32⟩
  | 17 => ⟨S2x4096x1, .f32⟩
  | 18 => ⟨S2x4096x7168, .f32⟩
  | 19 => ⟨S2x4096x7168, .f32⟩
  | 20 => ⟨S1x1x7168, .f32⟩
  | 21 => ⟨S2x4096x7168, .f32⟩
  | 22 => ⟨S2x4096x7168, .f32⟩
  | 23 => ⟨S2x4096x7168, .bf16⟩
  | 24 => ⟨S2x4096x896x8, .bf16⟩
  | 25 => ⟨S56x10240, .i32⟩
  | 26 => ⟨S56x10240, .bf16⟩
  | 27 => ⟨S56x1x10240, .bf16⟩
  | 28 => ⟨S56x1x10240, .bf16⟩
  | 29 => ⟨S_, .i32⟩
  | 30 => ⟨S896x10240, .i32⟩
  | 31 => ⟨S896x10240, .i32⟩
  | 32 => ⟨S_, .i32⟩
  | 33 => ⟨S896x10240, .i32⟩
  | 34 => ⟨S896x10240, .i32⟩
  | 35 => ⟨S56x16x10240, .i32⟩
  | 36 => ⟨S56x16x10240, .bf16⟩
  | 37 => ⟨S56x16x10240, .bf16⟩
  | 38 => ⟨S56x16x10240, .bf16⟩
  | 39 => ⟨S56x16x10240, .bf16⟩
  | 40 => ⟨S56x16x10240, .bf16⟩
  | 41 => ⟨S2x4096x896x1, .bf16⟩
  | 42 => ⟨S2x4096x896, .bf16⟩
  | 43 => ⟨S2x4096x56x16, .bf16⟩
  | 44 => ⟨S2x4096x10240, .f32⟩
  | 45 => ⟨S_, .i32⟩
  | 46 => ⟨S896x10240, .i32⟩
  | 47 => ⟨S896x10240, .i32⟩
  | 48 => ⟨S_, .i32⟩
  | 49 => ⟨S896x10240, .i32⟩
  | 50 => ⟨S896x10240, .i32⟩
  | 51 => ⟨S56x16x10240, .i32⟩
  | 52 => ⟨S56x16x10240, .bf16⟩
  | 53 => ⟨S56x16x10240, .bf16⟩
  | 54 => ⟨S56x16x10240, .bf16⟩
  | 55 => ⟨S56x16x10240, .bf16⟩
  | 56 => ⟨S56x16x10240, .bf16⟩
  | 57 => ⟨S2x4096x896x1, .bf16⟩
  | 58 => ⟨S2x4096x896, .bf16⟩
  | 59 => ⟨S2x4096x56x16, .bf16⟩
  | 60 => ⟨S2x4096x10240, .f32⟩
  | 61 => ⟨S2x4096x10240, .f32⟩
  | 62 => ⟨S_, .i32⟩
  | 63 => ⟨S896x10240, .i32⟩
  | 64 => ⟨S896x10240, .i32⟩
  | 65 => ⟨S_, .i32⟩
  | 66 => ⟨S896x10240, .i32⟩
  | 67 => ⟨S896x10240, .i32⟩
  | 68 => ⟨S56x16x10240, .i32⟩
  | 69 => ⟨S56x16x10240, .bf16⟩
  | 70 => ⟨S56x16x10240, .bf16⟩
  | 71 => ⟨S56x16x10240, .bf16⟩
  | 72 => ⟨S56x16x10240, .bf16⟩
  | 73 => ⟨S56x16x10240, .bf16⟩
  | 74 => ⟨S2x4096x896x1, .bf16⟩
  | 75 => ⟨S2x4096x896, .bf16⟩
  | 76 => ⟨S2x4096x56x16, .bf16⟩
  | 77 => ⟨S2x4096x10240, .f32⟩
  | 78 => ⟨S2x4096x10240, .f32⟩
  | 79 => ⟨S_, .i32⟩
  | 80 => ⟨S896x10240, .i32⟩
  | 81 => ⟨S896x10240, .i32⟩
  | 82 => ⟨S_, .i32⟩
  | 83 => ⟨S896x10240, .i32⟩
  | 84 => ⟨S896x10240, .i32⟩
  | 85 => ⟨S56x16x10240, .i32⟩
  | 86 => ⟨S56x16x10240, .bf16⟩
  | 87 => ⟨S56x16x10240, .bf16⟩
  | 88 => ⟨S56x16x10240, .bf16⟩
  | 89 => ⟨S56x16x10240, .bf16⟩
  | 90 => ⟨S56x16x10240, .bf16⟩
  | 91 => ⟨S2x4096x896x1, .bf16⟩
  | 92 => ⟨S2x4096x896, .bf16⟩
  | 93 => ⟨S2x4096x56x16, .bf16⟩
  | 94 => ⟨S2x4096x10240, .f32⟩
  | 95 => ⟨S2x4096x10240, .f32⟩
  | 96 => ⟨S_, .i32⟩
  | 97 => ⟨S896x10240, .i32⟩
  | 98 => ⟨S896x10240, .i32⟩
  | 99 => ⟨S_, .i32⟩
  | 100 => ⟨S896x10240, .i32⟩
  | 101 => ⟨S896x10240, .i32⟩
  | 102 => ⟨S56x16x10240, .i32⟩
  | 103 => ⟨S56x16x10240, .bf16⟩
  | 104 => ⟨S56x16x10240, .bf16⟩
  | 105 => ⟨S56x16x10240, .bf16⟩
  | 106 => ⟨S56x16x10240, .bf16⟩
  | 107 => ⟨S56x16x10240, .bf16⟩
  | 108 => ⟨S2x4096x896x1, .bf16⟩
  | 109 => ⟨S2x4096x896, .bf16⟩
  | 110 => ⟨S2x4096x56x16, .bf16⟩
  | 111 => ⟨S2x4096x10240, .f32⟩
  | 112 => ⟨S2x4096x10240, .f32⟩
  | 113 => ⟨S_, .i32⟩
  | 114 => ⟨S896x10240, .i32⟩
  | 115 => ⟨S896x10240, .i32⟩
  | 116 => ⟨S_, .i32⟩
  | 117 => ⟨S896x10240, .i32⟩
  | 118 => ⟨S896x10240, .i32⟩
  | 119 => ⟨S56x16x10240, .i32⟩
  | 120 => ⟨S56x16x10240, .bf16⟩
  | 121 => ⟨S56x16x10240, .bf16⟩
  | 122 => ⟨S56x16x10240, .bf16⟩
  | 123 => ⟨S56x16x10240, .bf16⟩
  | 124 => ⟨S56x16x10240, .bf16⟩
  | 125 => ⟨S2x4096x896x1, .bf16⟩
  | 126 => ⟨S2x4096x896, .bf16⟩
  | 127 => ⟨S2x4096x56x16, .bf16⟩
  | _ => ⟨S2x4096x7168, .bf16⟩

abbrev hbmTy0_1 (i : Nat) : BufTy := match i % 128 with
  | 0 => ⟨S2x4096x10240, .f32⟩
  | 1 => ⟨S2x4096x10240, .f32⟩
  | 2 => ⟨S_, .i32⟩
  | 3 => ⟨S896x10240, .i32⟩
  | 4 => ⟨S896x10240, .i32⟩
  | 5 => ⟨S_, .i32⟩
  | 6 => ⟨S896x10240, .i32⟩
  | 7 => ⟨S896x10240, .i32⟩
  | 8 => ⟨S56x16x10240, .i32⟩
  | 9 => ⟨S56x16x10240, .bf16⟩
  | 10 => ⟨S56x16x10240, .bf16⟩
  | 11 => ⟨S56x16x10240, .bf16⟩
  | 12 => ⟨S56x16x10240, .bf16⟩
  | 13 => ⟨S56x16x10240, .bf16⟩
  | 14 => ⟨S2x4096x896x1, .bf16⟩
  | 15 => ⟨S2x4096x896, .bf16⟩
  | 16 => ⟨S2x4096x56x16, .bf16⟩
  | 17 => ⟨S2x4096x10240, .f32⟩
  | 18 => ⟨S2x4096x10240, .f32⟩
  | 19 => ⟨S_, .i32⟩
  | 20 => ⟨S896x10240, .i32⟩
  | 21 => ⟨S896x10240, .i32⟩
  | 22 => ⟨S_, .i32⟩
  | 23 => ⟨S896x10240, .i32⟩
  | 24 => ⟨S896x10240, .i32⟩
  | 25 => ⟨S56x16x10240, .i32⟩
  | 26 => ⟨S56x16x10240, .bf16⟩
  | 27 => ⟨S56x16x10240, .bf16⟩
  | 28 => ⟨S56x16x10240, .bf16⟩
  | 29 => ⟨S56x16x10240, .bf16⟩
  | 30 => ⟨S56x16x10240, .bf16⟩
  | 31 => ⟨S2x4096x896x1, .bf16⟩
  | 32 => ⟨S2x4096x896, .bf16⟩
  | 33 => ⟨S2x4096x56x16, .bf16⟩
  | 34 => ⟨S2x4096x10240, .f32⟩
  | 35 => ⟨S2x4096x10240, .f32⟩
  | 36 => ⟨S2x4096x8192, .f32⟩
  | 37 => ⟨S2x4096x64x128, .f32⟩
  | 38 => ⟨S2x4096x1024, .f32⟩
  | 39 => ⟨S2x4096x8x128, .f32⟩
  | 40 => ⟨S2x4096x1024, .f32⟩
  | 41 => ⟨S2x4096x8x128, .f32⟩
  | 42 => ⟨S64, .f32⟩
  | 43 => ⟨S_, .f32⟩
  | 44 => ⟨S64, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S2x4096, .f32⟩
  | 54 => ⟨S2x4096x1, .f32⟩
  | 55 => ⟨S1x1x64, .f32⟩
  | 56 => ⟨S2x4096x64, .f32⟩
  | 57 => ⟨S2x4096x64, .f32⟩
  | 58 => ⟨S2x4096x64, .f32⟩
  | 59 => ⟨S2x4096x64, .f32⟩
  | 60 => ⟨S2x4096x1x64, .f32⟩
  | 61 => ⟨S2x4096x64, .f32⟩
  | 62 => ⟨S2x4096x1x64, .f32⟩
  | 63 => ⟨S2x4096x64x64x2, .f32⟩
  | 64 => ⟨S2x4096x64x64x1, .f32⟩
  | 65 => ⟨S2x4096x64x64, .f32⟩
  | 66 => ⟨S2x4096x64x64x1, .f32⟩
  | 67 => ⟨S2x4096x64x64, .f32⟩
  | 68 => ⟨S2x4096x64x64, .f32⟩
  | 69 => ⟨S2x4096x64x64, .f32⟩
  | 70 => ⟨S2x4096x64x64, .f32⟩
  | 71 => ⟨S2x4096x64x64, .f32⟩
  | 72 => ⟨S2x4096x64x64, .f32⟩
  | 73 => ⟨S2x4096x64x64, .f32⟩
  | 74 => ⟨S2x4096x64x64, .f32⟩
  | 75 => ⟨S2x4096x64x64, .f32⟩
  | 76 => ⟨S2x4096x64x64, .f32⟩
  | 77 => ⟨S2x4096x64x64, .f32⟩
  | 78 => ⟨S2x4096x64x64x1, .f32⟩
  | 79 => ⟨S2x4096x64x64x1, .f32⟩
  | 80 => ⟨S2x4096x64x64x2, .f32⟩
  | 81 => ⟨S2x4096x64x128, .f32⟩
  | 82 => ⟨S2x4096x64x128, .bf16⟩
  | 83 => ⟨S2x4096x8x64x2, .f32⟩
  | 84 => ⟨S2x4096x8x64x1, .f32⟩
  | 85 => ⟨S2x4096x8x64, .f32⟩
  | 86 => ⟨S2x4096x8x64x1, .f32⟩
  | 87 => ⟨S2x4096x8x64, .f32⟩
  | 88 => ⟨S2x4096x8x64, .f32⟩
  | 89 => ⟨S2x4096x8x64, .f32⟩
  | 90 => ⟨S2x4096x8x64, .f32⟩
  | 91 => ⟨S2x4096x8x64, .f32⟩
  | 92 => ⟨S2x4096x8x64, .f32⟩
  | 93 => ⟨S2x4096x8x64, .f32⟩
  | 94 => ⟨S2x4096x8x64, .f32⟩
  | 95 => ⟨S2x4096x8x64, .f32⟩
  | 96 => ⟨S2x4096x8x64, .f32⟩
  | 97 => ⟨S2x4096x8x64, .f32⟩
  | 98 => ⟨S2x4096x8x64x1, .f32⟩
  | 99 => ⟨S2x4096x8x64x1, .f32⟩
  | 100 => ⟨S2x4096x8x64x2, .f32⟩
  | 101 => ⟨S2x4096x8x128, .f32⟩
  | 102 => ⟨S2x4096x8x128, .bf16⟩
  | 103 => ⟨S2x4096x8x128, .bf16⟩
  | _ => ⟨S2x4096x7168, .bf16⟩

abbrev hbmTy (i : Nat) : BufTy := match i / 128 with
  | 0 => hbmTy0_0 i
  | 1 => hbmTy0_1 i
  | _ => ⟨S2x4096x7168, .bf16⟩

abbrev bufTy : (tb : Table) → Fin (tcTables nBuf tb) → BufTy
  | .hbm, ⟨i, _⟩ => hbmTy i
  | _, _ => ⟨S2x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_5 : Ref sig .tc := ⟨.hbm, 62, rfl⟩
abbrev main_v49 : Ref sig .tc := ⟨.hbm, 63, rfl⟩
abbrev main_v50 : Ref sig .tc := ⟨.hbm, 64, rfl⟩
abbrev main_c_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_c_7 : Ref sig .tc := ⟨.hbm, 79, rfl⟩
abbrev main_v64 : Ref sig .tc := ⟨.hbm, 80, rfl⟩
abbrev main_v65 : Ref sig .tc := ⟨.hbm, 81, rfl⟩
abbrev main_c_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_c_9 : Ref sig .tc := ⟨.hbm, 96, rfl⟩
abbrev main_v79 : Ref sig .tc := ⟨.hbm, 97, rfl⟩
abbrev main_v80 : Ref sig .tc := ⟨.hbm, 98, rfl⟩
abbrev main_c_10 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_c_11 : Ref sig .tc := ⟨.hbm, 113, rfl⟩
abbrev main_v94 : Ref sig .tc := ⟨.hbm, 114, rfl⟩
abbrev main_v95 : Ref sig .tc := ⟨.hbm, 115, rfl⟩
abbrev main_c_12 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_c_13 : Ref sig .tc := ⟨.hbm, 130, rfl⟩
abbrev main_v109 : Ref sig .tc := ⟨.hbm, 131, rfl⟩
abbrev main_v110 : Ref sig .tc := ⟨.hbm, 132, rfl⟩
abbrev main_c_14 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_c_15 : Ref sig .tc := ⟨.hbm, 147, rfl⟩
abbrev main_v124 : Ref sig .tc := ⟨.hbm, 148, rfl⟩
abbrev main_v125 : Ref sig .tc := ⟨.hbm, 149, rfl⟩
abbrev main_c_16 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_cst_17 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_cst_18 : Ref sig .tc := ⟨.hbm, 175, rfl⟩
abbrev main_v149 : Ref sig .tc := ⟨.hbm, 176, rfl⟩
abbrev main_v150 : Ref sig .tc := ⟨.hbm, 177, rfl⟩
abbrev main_cst_19 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩

abbrev nD : Nat := 1
abbrev τ : Topo := Topo.v7x

variable {F : FTy → Type} [FloatOps F]
-- ==== Proof.Bits.Norm.lean ====
/-
  The first call: the normalised rows and the tables of cosines and sines.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

variable (V : (c : Dev nD) → (b : Ref sig .tc) → Buf (Elt F) ((c : Thread nD τ).loc b)) (D : Dev nD → CellTallies nD τ sig Ix)

/-! # The normalisation's body, proof data and body obligation

Each of the 32 points normalises 256 rows and writes the cosine and the signed sine of their positions. -/

/-- The sine block with the sign of the rotation: negated on the even lanes. -/
def signedSin (x2 : Vec F S256x1 .i32) (x3 : Vec F S1x128 .f32) : Vec F S256x128 .f32 :=
  k0_pay1 (k0_pay4 x2 x3) (Scalar.select (Scalar.cmpi .eq 2#32 0#32) 1#32 2#32) k0_pay6 k0_pay7 0#32

set_option maxRecDepth 65536 in
set_option maxHeartbeats 400000 in
/-- The body on any staging memrefs. -/
theorem norm_run (c : Dev nD) (i : grid0.Coords)
  (arg1 : Memref sig .tc .vmem S256x7168 .bf16) (harg1 : arg1.IsWhole)
  (arg2 : Memref sig .tc .vmem S1x7168 .f32) (harg2 : arg2.IsWhole)
  (arg3 : Memref sig .tc .vmem S256x1 .i32) (harg3 : arg3.IsWhole)
  (arg4 : Memref sig .tc .vmem S1x128 .f32) (harg4 : arg4.IsWhole)
  (arg5 : Memref sig .tc .vmem S256x7168 .bf16) (harg5 : arg5.IsWhole)
  (arg6 : Memref sig .tc .vmem S256x128 .f32) (harg6 : arg6.IsWhole)
  (arg7 : Memref sig .tc .vmem S256x128 .f32) (harg7 : arg7.IsWhole)
    (x0 : Vec F S256x7168 .bf16) (x1 : Vec F S1x7168 .f32) (x2 : Vec F S256x1 .i32) (x3 : Vec F S1x128 .f32)
    (y4 : Vec F S256x7168 .bf16) (y5 y6 : Vec F S256x128 .f32) (E : Set ℕ) (K : PUnit → sProp 𝕄) :
    iprop(owns (c : Thread nD τ) arg1 fullShare x0 ∗ owns (c : Thread nD τ) arg2 fullShare x1
      ∗ owns (c : Thread nD τ) arg3 fullShare x2 ∗ owns (c : Thread nD τ) arg4 fullShare x3
      ∗ owns (c : Thread nD τ) arg5 fullShare y4 ∗ owns (c : Thread nD τ) arg6 fullShare y5
      ∗ owns (c : Thread nD τ) arg7 fullShare y6
      ∗ (iprop(owns (c : Thread nD τ) arg1 fullShare x0 ∗ owns (c : Thread nD τ) arg2 fullShare x1
          ∗ owns (c : Thread nD τ) arg3 fullShare x2 ∗ owns (c : Thread nD τ) arg4 fullShare x3
          ∗ owns (c : Thread nD τ) arg5 fullShare (k0_pay2 x0 x1) ∗ owns (c : Thread nD τ) arg6 fullShare (k0_pay5 x2 x3)
          ∗ owns (c : Thread nD τ) arg7 fullShare (signedSin x2 x3))
        -∗ K ⟨⟩))
    ⊢ wp frame (wpE (defs₀ (F := F)) 𝒱₀ c none) E (cc0_norm i arg1 harg1 arg2 harg2 arg3 harg3 arg4 harg4 arg5 harg5 arg6 harg6 arg7 harg7) K := by
  simp only [cc0_norm_eq_skeleton]; unfold cc0_norm_skel
  simp only [k0_part1_eq_skeleton]
  unfold owns
  iintro ⟨⟨%f0, %hf0, H0⟩, ⟨%f1, %hf1, H1⟩, ⟨%f2, %hf2, H2⟩, ⟨%f3, %hf3, H3⟩, ⟨%f4, -, H4⟩, ⟨%f5, -, H5⟩, ⟨%f6, -, H6⟩, Hk⟩
  subst hf0; subst hf1; subst hf2; subst hf3
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro; rw [View.read_writes_full, View.readAt_full, View.readAt_full]
  isplitl [H5]
  · iexists _; isplitr
    swap; · iexact H5
    ipureintro; rw [View.read_writes_full, View.readAt_full, View.readAt_full]
  iexists _; isplitr
  swap; · iexact H6
  ipureintro; unfold signedSin; rw [View.read_writes_full]; unfold norm_run.sl.r; dsimp only; rw [View.readAt_full, View.readAt_full]; first | done | rfl

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the normalisation's pipeline on core `c`. -/
def dat0 (c : Dev nD) : Dat τ (Elt F) Ix ℕ U Lvl cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay5 (iblk0 V c 2 t) (iblk0 V c 3 t)
    | ⟨6, _⟩ => signedSin (iblk0 V c 2 t) (iblk0 V c 3 t)
  Φ _ := iprop(Pipeline.scopedRest (Ix := Ix) (Name := ℕ) (U := U) (Lvl := Lvl) (Val := Elt F) spec0 c ∗ ∃ r, prngReg c r)
  q _ := fullShare
  owed _ := D c

variable (ι : Ix)

theorem before0_0 (c : Dev nD) (t : Fin cfg0.N) (d) : ((dat0 (Ix := Ix) (U := U) (Lvl := Lvl) V D) c).before 0 t d = iblk0 V c 0 t :=
  (Dat.before_in_eq_fetched ((dat0 (Ix := Ix) (U := U) (Lvl := Lvl) V D) c) 0 rfl (fun _ => rfl) (fun _ _ _ => rfl) (fun _ => rfl) t d).trans rfl
theorem before0_1 (c : Dev nD) (t : Fin cfg0.N) (d) : ((dat0 (Ix := Ix) (U := U) (Lvl := Lvl) V D) c).before 1 t d = iblk0 V c 1 t :=
  (Dat.before_in_eq_fetched ((dat0 (Ix := Ix) (U := U) (Lvl := Lvl) V D) c) 1 rfl (fun _ => rfl) (fun _ _ _ => rfl) (fun _ => rfl) t d).trans rfl
theorem before0_2 (c : Dev nD) (t : Fin cfg0.N) (d) : ((dat0 (Ix := Ix) (U := U) (Lvl := Lvl) V D) c).before 2 t d = iblk0 V c 2 t :=
  (Dat.before_in_eq_fetched ((dat0 (Ix := Ix) (U := U) (Lvl := Lvl) V D) c) 2 rfl (fun _ => rfl) (fun _ _ _ => rfl) (fun _ => rfl) t d).trans rfl
theorem before0_3 (c : Dev nD) (t : Fin cfg0.N) (d) : ((dat0 (Ix := Ix) (U := U) (Lvl := Lvl) V D) c).before 3 t d = iblk0 V c 3 t :=
  (Dat.before_in_eq_fetched ((dat0 (Ix := Ix) (U := U) (Lvl := Lvl) V D) c) 3 rfl (fun _ => rfl) (fun _ _ _ => rfl) (fun _ => rfl) t d).trans rfl

abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)

/-- What the body is called with at point `t`, and what it returns. -/
def bodyPre0 (c : Dev nD) (t : Fin cfg0.N) : sProp 𝕄 :=
  iprop(((dat0 (Ix := Ix) (U := U) (Lvl := Lvl) V D) c).Φ t.castSucc ∗ ((dat0 (Ix := Ix) (U := U) (Lvl := Lvl) V D) c).owesAt ι t.castSucc
    ∗ (∃ d, owns (c : Thread nD τ) (ms0_0 t) fullShare (((dat0 (Ix := Ix) (U := U) (Lvl := Lvl) V D) c).before 0 t d))
    ∗ (∃ d, owns (c : Thread nD τ) (ms0_1 t) fullShare (((dat0 (Ix := Ix) (U := U) (Lvl := Lvl) V D) c).before 1 t d))
    ∗ (∃ d, owns (c : Thread nD τ) (ms0_2 t) fullShare (((dat0 (Ix := Ix) (U := U) (Lvl := Lvl) V D) c).before 2 t d))
    ∗ (∃ d, owns (c : Thread nD τ) (ms0_3 t) fullShare (((dat0 (Ix := Ix) (U := U) (Lvl := Lvl) V D) c).before 3 t d))
    ∗ (∃ d, owns (c : Thread nD τ) (ms0_4 t) fullShare (((dat0 (Ix := Ix) (U := U) (Lvl := Lvl) V D) c).before 4 t d))
    ∗ (∃ d, owns (c : Thread nD τ) (ms0_5 t) fullShare (((dat0 (Ix := Ix) (U := U) (Lvl := Lvl) V D) c).before 5 t d))
    ∗ (∃ d, owns (c : Thread nD τ) (ms0_6 t) fullShare (((dat0 (Ix := Ix) (U := U) (Lvl := Lvl) V D) c).before 6 t d)))

def bodyPost0 (c : Dev nD) (t : Fin cfg0.N) : sProp 𝕄 :=
  iprop(((dat0 (Ix := Ix) (U := U) (Lvl := Lvl) V D) c).Φ t.succ ∗ ((dat0 (Ix := Ix) (U := U) (Lvl := Lvl) V D) c).owesAt ι t.succ
    ∗ owns (c : Thread nD τ) (ms0_0 t) fullShare (((dat0 (Ix := Ix) (U := U) (Lvl := Lvl) V D) c).after 0 t)
    ∗ owns (c : Thread nD τ) (ms0_1 t) fullShare (((dat0 (Ix := Ix) (U := U) (Lvl := Lvl) V D) c).after 1 t)
    ∗ owns (c : Thread nD τ) (ms0_2 t) fullShare (((dat0 (Ix := Ix) (U := U) (Lvl := Lvl) V D) c).after 2 t)
    ∗ owns (c : Thread nD τ) (ms0_3 t) fullShare (((dat0 (Ix := Ix) (U := U) (Lvl := Lvl) V D) c).after 3 t)
    ∗ owns (c : Thread nD τ) (ms0_4 t) fullShare (((dat0 (Ix := Ix) (U := U) (Lvl := Lvl) V D) c).after 4 t)
    ∗ owns (c : Thread nD τ) (ms0_5 t) fullShare (((dat0 (Ix := Ix) (U := U) (Lvl := Lvl) V D) c).after 5 t)
    ∗ owns (c : Thread nD τ) (ms0_6 t) fullShare (((dat0 (Ix := Ix) (U := U) (Lvl := Lvl) V D) c).after 6 t))

theorem norm_sound_body (c : Dev nD) (t : Fin cfg0.N) :
    bodyPre0 (U := U) (Lvl := Lvl) V D ι c t ⊢ wp frame (wpE (defs₀ (F := F)) 𝒱₀ c none) Set.univ (bodyAt0 t) (fun _ => bodyPost0 (U := U) (Lvl := Lvl) V D ι c t) := by
  unfold bodyPre0 bodyPost0 bodyAt0
  simp only [before0_0, before0_1, before0_2, before0_3]
  rw [show ((dat0 (Ix := Ix) (U := U) (Lvl := Lvl) V D) c).Φ t.succ = ((dat0 (Ix := Ix) (U := U) (Lvl := Lvl) V D) c).Φ t.castSucc from rfl,
    show ((dat0 (Ix := Ix) (U := U) (Lvl := Lvl) V D) c).owesAt ι t.succ = ((dat0 (Ix := Ix) (U := U) (Lvl := Lvl) V D) c).owesAt ι t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (norm_run 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t)
    (((dat0 (Ix := Ix) (U := U) (Lvl := Lvl) V D) c).before 4 t d4) (((dat0 (Ix := Ix) (U := U) (Lvl := Lvl) V D) c).before 5 t d5) (((dat0 (Ix := Ix) (U := U) (Lvl := Lvl) V D) c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem norm_obligation (c : Dev nD) : BodyObligation ((dat0 (Ix := Ix) (U := U) (Lvl := Lvl) V D) c) (defs₀ (F := F)) 𝒱₀ ι Set.univ := fun t => by
  rw [bigSep_W0, bigSep_W0, defs₀_row0]
  exact triple_restated (norm_sound_body (U := U) (Lvl := Lvl) 𝒱₀ V D ι c t) rfl .rfl fun _ => .rfl

end Cert.Kernel.Own
end
-- ==== Proof.Bits.Fill.lean ====
/-
  The dequantised weight tile, and the 56 stores that write it into the scratch, one group of 128 rows each.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

/-! # The weight tile: dequantised once per column tile, kept in scratch

Group `g` of the scratch (rows `128 g … 128 g + 127`) is one dequantisation of rows `16 g … 16 g + 15` of the packed
words with row `g` of the zeros and of the scales.  The printed body spreads the 56 groups over 31 functions; every one
of its 56 stores is the same expression `k1_pay2` at its own group. -/

/-- Sixteen rows of packed words from row `a`. -/
def wordsAt (x1 : Vec F S896x1024 .i32) (a : ℕ) : Vec F S16x1024 .i32 :=
  fun j => x1 (fun d => ⟨(![a, 0] d + (j d).val) % S896x1024.size d, Nat.mod_lt _ (by revert d; decide)⟩)

/-- One row of a per-group table. -/
def rowAt {e : EltTy} (x : Vec F S56x1024 e) (g : ℕ) : Vec F S1x1024 e :=
  fun j => x (fun d => ⟨(![g, 0] d + (j d).val) % S56x1024.size d, Nat.mod_lt _ (by revert d; decide)⟩)

/-- The whole dequantised tile. -/
def deqTile (x1 : Vec F S896x1024 .i32) (x2 : Vec F S56x1024 .bf16) (x3 : Vec F S56x1024 .i8) : Vec F S7168x1024 .bf16 :=
  fun y => k1_pay2 (wordsAt x1 ((y 0).val / 128 * 16)) (rowAt x3 ((y 0).val / 128)) (rowAt x2 ((y 0).val / 128))
    (fun d => ⟨(y d).val % S128x1024.size d, Nat.mod_lt _ (by revert d; decide)⟩)

variable {arg3 : Memref sig .tc .vmem S896x1024 .i32} {arg4 : Memref sig .tc .vmem S56x1024 .bf16}
  {arg5 : Memref sig .tc .vmem S56x1024 .i8} (f3 : arg3.view.ty.Contents (Elt F)) (f4 : arg4.view.ty.Contents (Elt F))
  (f5 : arg5.view.ty.Contents (Elt F))

theorem inb_tile (g : Fin 56) : ∀ a, ![128 * g.val, 0] a + S128x1024.size a ≤ S7168x1024.size a := by
  revert g; decide +kernel
theorem inb_words (g : Fin 56) : ∀ a, ![16 * g.val, 0] a + S16x1024.size a ≤ S896x1024.size a := by
  revert g; decide +kernel
theorem inb_row (g : Fin 56) : ∀ a, ![g.val, 0] a + S1x1024.size a ≤ S56x1024.size a := by
  revert g; decide +kernel

/-- The store of group `g`: what it writes and where. -/
def groupPiece (g : Fin 56) : View.Piece (Elt F) S7168x1024 .bf16 :=
  ⟨Rect.unit (s := S7168x1024) ![128 * g.val, 0] S128x1024.size (inb_tile g),
    k1_pay2 (arg3.view.readAt (Elt F) (Rect.unit (s := S896x1024) ![16 * g.val, 0] S16x1024.size (inb_words g)).toLoadRect f3)
      (arg5.view.readAt (Elt F) (Rect.unit (s := S56x1024) ![g.val, 0] S1x1024.size (inb_row g)).toLoadRect f5)
      (arg4.view.readAt (Elt F) (Rect.unit (s := S56x1024) ![g.val, 0] S1x1024.size (inb_row g)).toLoadRect f4)⟩

/-- A group's store is the tile at its rows. -/
theorem groupPiece_eq (g : Fin 56) (x : S128x1024.Idx) :
    (groupPiece f3 f4 f5 g).2 x = deqTile (arg3.view.read (Elt F) f3) (arg4.view.read (Elt F) f4) (arg5.view.read (Elt F) f5)
      ((groupPiece f3 f4 f5 g).1.emb x) := by
  unfold groupPiece
  dsimp only
  have hg : g.val < 56 := g.isLt
  have h0 : (x 0).val < 128 := (x 0).isLt
  have h1 : (x 1).val < 1024 := (x 1).isLt
  have e0 : ((Rect.unit (s := S7168x1024) ![128 * g.val, 0] S128x1024.size (inb_tile g)).emb x 0).val = 128 * g.val + (x 0).val := by
    rw [Rect.emb_apply]; simp [Rect.unit]
  have e1 : ((Rect.unit (s := S7168x1024) ![128 * g.val, 0] S128x1024.size (inb_tile g)).emb x 1).val = (x 1).val := by
    rw [Rect.emb_apply]; simp [Rect.unit]
  have ed : (128 * g.val + (x 0).val) / 128 = g.val := by omega
  unfold deqTile
  rw [e0, ed, Nat.mul_comm g.val 16]
  have hx : (fun d => ⟨((Rect.unit (s := S7168x1024) ![128 * g.val, 0] S128x1024.size (inb_tile g)).emb x d).val % S128x1024.size d,
      Nat.mod_lt _ (by revert d; decide)⟩ : S128x1024.Idx) = x := by
    funext d
    refine Fin.ext ?_
    fin_cases d
    · change ((Rect.unit (s := S7168x1024) ![128 * g.val, 0] S128x1024.size (inb_tile g)).emb x 0).val % 128 = (x 0).val
      rw [e0]; omega
    · change ((Rect.unit (s := S7168x1024) ![128 * g.val, 0] S128x1024.size (inb_tile g)).emb x 1).val % 1024 = (x 1).val
      rw [e1]; omega
  rw [hx]
  have hw : arg3.view.readAt (Elt F) (Rect.unit (s := S896x1024) ![16 * g.val, 0] S16x1024.size (inb_words g)).toLoadRect f3
      = wordsAt (arg3.view.read (Elt F) f3) (16 * g.val) := by
    funext j
    rw [View.readAt_apply]
    unfold wordsAt
    congr 1
    funext d
    refine Fin.ext ?_
    have hj0 : (j 0).val < 16 := (j 0).isLt
    have hj1 : (j 1).val < 1024 := (j 1).isLt
    rw [LoadRect.idx_apply]
    fin_cases d
    · change 16 * g.val + 1 * (j 0).val = (16 * g.val + (j 0).val) % 896
      omega
    · change 0 + 1 * (j 1).val = (0 + (j 1).val) % 1024
      omega
  have hr : ∀ {e : EltTy} {m : Memref sig .tc .vmem S56x1024 e} (f : m.view.ty.Contents (Elt F)),
      m.view.readAt (Elt F) (Rect.unit (s := S56x1024) ![g.val, 0] S1x1024.size (inb_row g)).toLoadRect f
      = rowAt (m.view.read (Elt F) f) (g.val) := by
    intro e m f
    funext j
    rw [View.readAt_apply]
    unfold rowAt
    congr 1
    funext d
    refine Fin.ext ?_
    have hj0 : (j 0).val < 1 := (j 0).isLt
    have hj1 : (j 1).val < 1024 := (j 1).isLt
    rw [LoadRect.idx_apply]
    fin_cases d
    · change g.val + 1 * (j 0).val = (g.val + (j 0).val) % 56
      omega
    · change 0 + 1 * (j 1).val = (0 + (j 1).val) % 1024
      omega
  rw [hw, hr, hr]

/-- The groups, last stored first. -/
def groups : List (Fin 56) :=
  [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

/-- Reading back all 56 stores gives the tile, whatever was there before. -/
theorem read_groups (arg11 : Memref sig .tc .vmem S7168x1024 .bf16) (f : arg11.view.ty.Contents (Elt F)) :
    arg11.view.read (Elt F) (arg11.view.writes (Elt F) f (groups.map (groupPiece f3 f4 f5)))
      = deqTile (arg3.view.read (Elt F) f3) (arg4.view.read (Elt F) f4) (arg5.view.read (Elt F) f5) := by
  funext y
  refine View.read_writes_apply_of_pieces arg11.view f _ _ ?_ y ?_
  · intro p hp x
    obtain ⟨g, -, rfl⟩ := List.mem_map.1 hp
    exact groupPiece_eq f3 f4 f5 g x
  · exact View.cover_of_tiledL (groups.map (groupPiece f3 f4 f5)) S128x1024.size (by sl_kernel_rfl) y

end Cert.Kernel.Own
end
-- ==== Proof.Bits.FillRun.lean ====
/-
  The body of the second call up to its product: the scratch holds the dequantised tile, filled here or found filled.
-/
module

public import proofs.«01_k».proof.Proof.Gen.Kernel.Launch
public import proofs.«01_k».proof.Proof.Gen.Kernel.Skeleton
public import proofs.«01_k».proof.Proof.Gen.Kernel.Points
public import proofs.«01_k».proof.Proof.Bits.Fill
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)
/-- The body's first condition: the first row tile of a column tile. -/
def Fills (i : grid1.Coords) : Prop :=
  Scalar.cmpi .ne (Scalar.extui (Scalar.cmpi .eq (BitVec.ofNat 32 (i 1).val) 0#32) : BitVec 32) 0#32 = 1#1

set_option maxRecDepth 65536 in
set_option maxHeartbeats 1000000 in
/-- The body up to its product: whether it fills the scratch here or finds it filled, the scratch holds the
    dequantised tile, and the product and the first head's parts are taken from it. -/
theorem part33_run (c : Dev nD) (i : grid1.Coords)
  (arg2 : Memref sig .tc .vmem S512x7168 .bf16) (harg2 : arg2.IsWhole)
  (arg3 : Memref sig .tc .vmem S896x1024 .i32) (harg3 : arg3.IsWhole)
  (arg4 : Memref sig .tc .vmem S56x1024 .bf16) (harg4 : arg4.IsWhole)
  (arg5 : Memref sig .tc .vmem S56x1024 .i8) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x8x128 .bf16) (harg8 : arg8.IsWhole)
  (arg9 : Memref sig .tc .vmem S512x8x128 .bf16) (harg9 : arg9.IsWhole)
  (arg10 : Memref sig .tc .vmem S512x8x128 .bf16) (harg10 : arg10.IsWhole)
  (arg11 : Memref sig .tc .vmem S7168x1024 .bf16) (harg11 : arg11.IsWhole)
    (x0 : Vec F S512x7168 .bf16) (x1 : Vec F S896x1024 .i32) (x2 : Vec F S56x1024 .bf16) (x3 : Vec F S56x1024 .i8)
    (x4 x5 : Vec F S512x128 .f32) (s : Vec F S7168x1024 .bf16) (hs : ¬ Fills i → s = deqTile x1 x2 x3)
    (E : Set ℕ) (K : _ → sProp 𝕄) :
    iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ owns (c : Thread nD τ) arg7 fullShare x5
      ∗ owns (c : Thread nD τ) arg11 fullShare s
      ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg11 fullShare (deqTile x1 x2 x3))
        -∗ K ⟨BitVec.ofNat 32 (i 0).val, k1_pay95 x0 (deqTile x1 x2 x3), k1_pay96 x4, k1_pay97 x5, k1_pay98,
            Scalar.cmpi .eq (BitVec.ofNat 32 (i 0).val) 9#32, k1_pay99 x0 (deqTile x1 x2 x3),
            k1_pay100 x0 (deqTile x1 x2 x3), k1_pay101 x0 (deqTile x1 x2 x3) x4⟩))
    ⊢ wp frame (wpE (defs₀ (F := F)) 𝒱₀ c none) E (k1_part33 i arg2 harg2 arg3 harg3 arg4 harg4 arg5 harg5 arg6 harg6 arg7 harg7 arg8 harg8 arg9 harg9 arg10 harg10 arg11 harg11) K := by
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
  unfold k1_part33_skel
  by_cases hc0 : Fills i
  · unfold Fills at hc0
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, Hk⟩
    subst hf1; subst hf2; subst hf3; subst hf0; subst hf4; subst hf5
    sl_exec (disch := first | sl_exact hc0)
    have hL : part33_run.sl.H6_56 c arg3 arg4 arg5 f1 f2 f3 = groups.map (groupPiece f1 f2 f3) := by
      unfold part33_run.sl.H6_56; rfl
    have hv5 : part33_run.sl.v5 c arg3 arg4 arg5 arg11 f1 f2 f3
        = deqTile (arg3.view.read (Elt F) f1) (arg4.view.read (Elt F) f2) (arg5.view.read (Elt F) f3) := by
      unfold part33_run.sl.v5 View.readCov
      rw [View.readAt_full, hL]
      exact read_groups f1 f2 f3 arg11 _
    rw [hL, hv5, View.readAt_full, View.readAt_full, View.readAt_full]
    unfold part33_run.sl.v30
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr
    swap; · iexact H6
    ipureintro; exact read_groups f1 f2 f3 arg11 _
  · have hs' := hs hc0
    unfold Fills at hc0
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    rw [hs'] at hf6
    subst hf1; subst hf2; subst hf3; subst hf0; subst hf4; subst hf5
    sl_exec (disch := first | sl_exact hc0)
    sl_step
    rw [View.readAt_full, View.readAt_full, View.readAt_full, View.readAt_full, hf6]
    unfold part33_run.sl.v30_1
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr
    swap; · iexact H6
    ipureintro; exact hf6

end Cert.Kernel.Own
end
-- ==== Proof.Bits.Proj.lean ====
/-
  The whole body of the second call on any staging buffers, and the tile it computes.
-/
module

public import proofs.«01_k».proof.Proof.Gen.Kernel.Launch
public import proofs.«01_k».proof.Proof.Gen.Kernel.Skeleton
public import proofs.«01_k».proof.Proof.Gen.Kernel.Points
public import proofs.«01_k».proof.Proof.Bits.FillRun
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

/-! # The projection's body: one tile of outputs, stored to the array its column tile belongs to -/

/-- The tile the body computes at a point: the product with the dequantised tile, its eight heads rotated unless the
    column tile is the values'. -/
def tileOut (i : grid1.Coords) (x0 : Vec F S512x7168 .bf16) (d : Vec F S7168x1024 .bf16) (x4 x5 : Vec F S512x128 .f32) :
    Vec F S512x8x128 .bf16 :=
  k1_pay1 (k1_pay95 x0 d) (k1_pay96 x4) (k1_pay97 x5) k1_pay98 (Scalar.cmpi .eq (BitVec.ofNat 32 (i 0).val) 9#32)
    (k1_pay102 (k1_pay97 x5) (Scalar.cmpi .eq (BitVec.ofNat 32 (i 0).val) 9#32) (k1_pay99 x0 d) (k1_pay100 x0 d) (k1_pay101 x0 d x4))
    (k1_pay103 (k1_pay95 x0 d) (k1_pay96 x4) (k1_pay97 x5) k1_pay98 (Scalar.cmpi .eq (BitVec.ofNat 32 (i 0).val) 9#32))
    (k1_pay104 (k1_pay95 x0 d) (k1_pay96 x4) (k1_pay97 x5) k1_pay98 (Scalar.cmpi .eq (BitVec.ofNat 32 (i 0).val) 9#32))
    (k1_pay105 (k1_pay95 x0 d) (k1_pay96 x4) (k1_pay97 x5) k1_pay98 (Scalar.cmpi .eq (BitVec.ofNat 32 (i 0).val) 9#32))
    (k1_pay106 (k1_pay95 x0 d) (k1_pay96 x4) (k1_pay97 x5) k1_pay98 (Scalar.cmpi .eq (BitVec.ofNat 32 (i 0).val) 9#32))
    (k1_pay107 (k1_pay95 x0 d) (k1_pay96 x4) (k1_pay97 x5) k1_pay98 (Scalar.cmpi .eq (BitVec.ofNat 32 (i 0).val) 9#32))
    (k1_pay108 (k1_pay95 x0 d)) (k1_pay109 (k1_pay95 x0 d) k1_pay98) (k1_pay110 (k1_pay95 x0 d) (k1_pay96 x4))

set_option maxRecDepth 65536 in
set_option maxHeartbeats 400000 in
/-- The body on any staging memrefs: the inputs stay, the scratch ends at the dequantised tile, and each output whose
    condition holds ends at the computed tile, the others as they were. -/
theorem proj_run (c : Dev nD) (i : grid1.Coords)
  (arg2 : Memref sig .tc .vmem S512x7168 .bf16) (harg2 : arg2.IsWhole)
  (arg3 : Memref sig .tc .vmem S896x1024 .i32) (harg3 : arg3.IsWhole)
  (arg4 : Memref sig .tc .vmem S56x1024 .bf16) (harg4 : arg4.IsWhole)
  (arg5 : Memref sig .tc .vmem S56x1024 .i8) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x8x128 .bf16) (harg8 : arg8.IsWhole)
  (arg9 : Memref sig .tc .vmem S512x8x128 .bf16) (harg9 : arg9.IsWhole)
  (arg10 : Memref sig .tc .vmem S512x8x128 .bf16) (harg10 : arg10.IsWhole)
  (arg11 : Memref sig .tc .vmem S7168x1024 .bf16) (harg11 : arg11.IsWhole)
    (x0 : Vec F S512x7168 .bf16) (x1 : Vec F S896x1024 .i32) (x2 : Vec F S56x1024 .bf16) (x3 : Vec F S56x1024 .i8)
    (x4 x5 : Vec F S512x128 .f32) (y6 y7 y8 : Vec F S512x8x128 .bf16)
    (s : Vec F S7168x1024 .bf16) (hs : ¬ Fills i → s = deqTile x1 x2 x3) (E : Set ℕ) (K : PUnit → sProp 𝕄) :
    iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ owns (c : Thread nD τ) arg7 fullShare x5
      ∗ owns (c : Thread nD τ) arg8 fullShare y6 ∗ owns (c : Thread nD τ) arg9 fullShare y7
      ∗ owns (c : Thread nD τ) arg10 fullShare y8 ∗ owns (c : Thread nD τ) arg11 fullShare s
      ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare (if k1_cond2 i = 1#1 then tileOut i x0 (deqTile x1 x2 x3) x4 x5 else y6)
          ∗ owns (c : Thread nD τ) arg9 fullShare (if k1_cond3 i = 1#1 then tileOut i x0 (deqTile x1 x2 x3) x4 x5 else y7)
          ∗ owns (c : Thread nD τ) arg10 fullShare (if k1_cond4 i = 1#1 then tileOut i x0 (deqTile x1 x2 x3) x4 x5 else y8)
          ∗ owns (c : Thread nD τ) arg11 fullShare (deqTile x1 x2 x3))
        -∗ K ⟨⟩))
    ⊢ wp frame (wpE (defs₀ (F := F)) 𝒱₀ c none) E (cc1_proj i arg2 harg2 arg3 harg3 arg4 harg4 arg5 harg5 arg6 harg6 arg7 harg7 arg8 harg8 arg9 harg9 arg10 harg10 arg11 harg11) K := by
  simp only [cc1_proj_eq_skeleton]; unfold cc1_proj_skel
  rw [wp_bind]
  iintro ⟨H0, H1, H2, H3, H4, H5, H6, H7, H8, H9, Hk⟩
  iapply (part33_run 𝒱₀ c i arg2 harg2 arg3 harg3 arg4 harg4 arg5 harg5 arg6 harg6 arg7 harg7 arg8 harg8 arg9 harg9 arg10 harg10 arg11 harg11 x0 x1 x2 x3 x4 x5 s hs E _)
  isplitl [H0]; · iexact H0
  isplitl [H1]; · iexact H1
  isplitl [H2]; · iexact H2
  isplitl [H3]; · iexact H3
  isplitl [H4]; · iexact H4
  isplitl [H5]; · iexact H5
  isplitl [H9]; · iexact H9
  iintro ⟨H0, H1, H2, H3, H4, H5, H9⟩
  simp only [k1_part34_eq_skeleton]; unfold k1_part34_skel
  unfold owns
  icases H6 with ⟨%f6, %hf6, H6⟩
  icases H7 with ⟨%f7, %hf7, H7⟩
  icases H8 with ⟨%f8, %hf8, H8⟩
  by_cases hc2 : k1_cond2 i = 1#1 <;> by_cases hc3 : k1_cond3 i = 1#1 <;> by_cases hc4 : k1_cond4 i = 1#1
  all_goals
    simp only [hc2, hc3, hc4, if_true, if_false]
    sl_exec (disch := first | sl_exact hc2 | sl_exact hc3 | sl_exact hc4)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]
    · iexists _; isplitr
      swap; · iexact H6
      ipureintro; first | (dsimp only; unfold tileOut; exact View.read_writes_full _ _ _ _ _) | exact hf6
    isplitl [H7]
    · iexists _; isplitr
      swap; · iexact H7
      ipureintro; first | (dsimp only; unfold tileOut; exact View.read_writes_full _ _ _ _ _) | exact hf7
    isplitl [H8]
    · iexists _; isplitr
      swap; · iexact H8
      ipureintro; first | (dsimp only; unfold tileOut; exact View.read_writes_full _ _ _ _ _) | exact hf8
    iexact H9

end Cert.Kernel.Own
end
-- ==== Proof.Bits.ProjData.lean ====
/-
  The second call's data: what each window holds at each grid point, and what the weight scratch carries from one point to the next.
-/
module

public import proofs.«01_k».proof.Proof.Gen.Kernel.Launch
public import proofs.«01_k».proof.Proof.Gen.Kernel.Skeleton
public import proofs.«01_k».proof.Proof.Gen.Kernel.Points
public import proofs.«01_k».proof.Proof.Bits.Proj
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

variable (V : (c : Dev nD) → (b : Ref sig .tc) → Buf (Elt F) ((c : Thread nD τ).loc b)) (D : Dev nD → CellTallies nD τ sig Ix)

/-! # The projection's proof data

Point `t` of the grid is column tile `t / 16`, row tile `t % 16`. The scratch is filled at the first row tile of each
column tile and read at the fifteen that follow; the query output is stored for column tiles 0 … 7, the keys' at 8, the
values' at 9. The last query block stays staged through column tiles 8 and 9 and the last key block through 9, so what
the staging buffers of those two outputs hold stops changing at points 127 and 143. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The dequantised weight tile of a point's column tile. -/
def wTile (c : Dev nD) (t : Fin cfg1.N) : Vec F S7168x1024 .bf16 :=
  deqTile (iblk1 V c 1 t) (iblk1 V c 2 t) (iblk1 V c 3 t)

/-- The tile the body computes at a point. -/
def tileAt (c : Dev nD) (t : Fin cfg1.N) : Vec F S512x8x128 .bf16 :=
  tileOut (grid1.coords t) (iblk1 V c 0 t) (wTile V c t) (iblk1 V c 4 t) (iblk1 V c 5 t)

/-- A point no later than `k`. -/
def upTo (k : ℕ) (hk : k < 160) (t : Fin cfg1.N) : Fin cfg1.N := ⟨min t.val k, lt_of_le_of_lt (min_le_right _ _) hk⟩

/-- The buffers the region leaves alone. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant before point `n`: the buffers left alone, the scratch (at a point that does not refill it,
    the tile of that point's column tile), the generator register. -/
def Φ1 (c : Dev nD) (n : Fin (cfg1.N + 1)) : sProp 𝕄 :=
  iprop(others (F := F) c
    ∗ (∃ d : Vec F S7168x1024 .bf16, ⌜∀ h : n.val < cfg1.N, n.val % 16 ≠ 0 → d = wTile V c ⟨n.val, h⟩⌝
        ∗ owns (c : Thread nD τ) (Memref.whole cc1_scratch0) fullShare d)
    ∗ ∃ r, prngReg c r)

/-- The proof data of the projection's pipeline on core `c`. -/
def dat1 (c : Dev nD) : Dat τ (Elt F) Ix ℕ U Lvl cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => tileAt V c (upTo 127 (by decide) t)
    | ⟨7, _⟩ => tileAt V c (upTo 143 (by decide) t)
    | ⟨8, _⟩ => tileAt V c t
  Φ n := Φ1 V c n
  q _ := fullShare
  owed _ := D c

variable (ι : Ix)

theorem before1_0 (c : Dev nD) (t : Fin cfg1.N) (d) : ((dat1 (Ix := Ix) (U := U) (Lvl := Lvl) V D) c).before 0 t d = iblk1 V c 0 t :=
  (Dat.before_in_eq_fetched ((dat1 (Ix := Ix) (U := U) (Lvl := Lvl) V D) c) 0 rfl (fun _ => rfl) (fun _ _ _ => rfl) (fun _ => rfl) t d).trans rfl
theorem before1_1 (c : Dev nD) (t : Fin cfg1.N) (d) : ((dat1 (Ix := Ix) (U := U) (Lvl := Lvl) V D) c).before 1 t d = iblk1 V c 1 t :=
  (Dat.before_in_eq_fetched ((dat1 (Ix := Ix) (U := U) (Lvl := Lvl) V D) c) 1 rfl (fun _ => rfl) (fun _ _ _ => rfl) (fun _ => rfl) t d).trans rfl
theorem before1_2 (c : Dev nD) (t : Fin cfg1.N) (d) : ((dat1 (Ix := Ix) (U := U) (Lvl := Lvl) V D) c).before 2 t d = iblk1 V c 2 t :=
  (Dat.before_in_eq_fetched ((dat1 (Ix := Ix) (U := U) (Lvl := Lvl) V D) c) 2 rfl (fun _ => rfl) (fun _ _ _ => rfl) (fun _ => rfl) t d).trans rfl
theorem before1_3 (c : Dev nD) (t : Fin cfg1.N) (d) : ((dat1 (Ix := Ix) (U := U) (Lvl := Lvl) V D) c).before 3 t d = iblk1 V c 3 t :=
  (Dat.before_in_eq_fetched ((dat1 (Ix := Ix) (U := U) (Lvl := Lvl) V D) c) 3 rfl (fun _ => rfl) (fun _ _ _ => rfl) (fun _ => rfl) t d).trans rfl
theorem before1_4 (c : Dev nD) (t : Fin cfg1.N) (d) : ((dat1 (Ix := Ix) (U := U) (Lvl := Lvl) V D) c).before 4 t d = iblk1 V c 4 t :=
  (Dat.before_in_eq_fetched ((dat1 (Ix := Ix) (U := U) (Lvl := Lvl) V D) c) 4 rfl (fun _ => rfl) (fun _ _ _ => rfl) (fun _ => rfl) t d).trans rfl
theorem before1_5 (c : Dev nD) (t : Fin cfg1.N) (d) : ((dat1 (Ix := Ix) (U := U) (Lvl := Lvl) V D) c).before 5 t d = iblk1 V c 5 t :=
  (Dat.before_in_eq_fetched ((dat1 (Ix := Ix) (U := U) (Lvl := Lvl) V D) c) 5 rfl (fun _ => rfl) (fun _ _ _ => rfl) (fun _ => rfl) t d).trans rfl

/-! ## When the outputs' staging buffers are written and written back -/

theorem live6 : ∀ t : Fin cfg1.N, k1_cond2 (grid1.coords t) = 1#1 ↔ t.val < 128 := by decide +kernel
theorem live7 : ∀ t : Fin cfg1.N, k1_cond3 (grid1.coords t) = 1#1 ↔ (128 ≤ t.val ∧ t.val < 144) := by decide +kernel
theorem live8 : ∀ t : Fin cfg1.N, k1_cond4 (grid1.coords t) = 1#1 ↔ 144 ≤ t.val := by decide +kernel
theorem fills_of : ∀ t : Fin cfg1.N, t.val % 16 = 0 → Fills (grid1.coords t) := by unfold Fills; decide +kernel

/-- Whether a query staging buffer holds nothing of ours before point `n`. -/
def fresh6 (n : ℕ) : Bool := decide (n < 128) || decide (160 ≤ n)
def fresh7 (n : ℕ) : Bool := decide (n < 144) || decide (160 ≤ n)
theorem fresh6_eq : ∀ n, n ≤ cfg1.N → cfg1.fresh 6 n = fresh6 n :=
  Pipeline.Cfg.fresh_tab cfg1 6 fresh6 rfl (by decide +kernel)
theorem fresh7_eq : ∀ n, n ≤ cfg1.N → cfg1.fresh 7 n = fresh7 n :=
  Pipeline.Cfg.fresh_tab cfg1 7 fresh7 rfl (by decide +kernel)
theorem fresh8_eq : ∀ n, n ≤ cfg1.N → cfg1.fresh 8 n = true :=
  Pipeline.Cfg.fresh_tab cfg1 8 (fun _ => true) rfl (by decide +kernel)
theorem flush6_idle : ∀ t : Fin cfg1.N, ¬ t.val < 128 → (cfg1.win 6).flush t = true → t.val = 159 := by decide +kernel
theorem flush7_idle : ∀ t : Fin cfg1.N, ¬ (128 ≤ t.val ∧ t.val < 144) → (cfg1.win 7).flush t = true → t.val = 159 := by decide +kernel
theorem flush8_idle : ∀ t : Fin cfg1.N, ¬ 144 ≤ t.val → (cfg1.win 8).flush t = false := by decide +kernel

end Cert.Kernel.Own
end
-- ==== Proof.Bits.ProjBody.lean ====
/-
  The body of the second call meets its data at every grid point.
-/
module

public import proofs.«01_k».proof.Proof.Gen.Kernel.Launch
public import proofs.«01_k».proof.Proof.Gen.Kernel.Skeleton
public import proofs.«01_k».proof.Proof.Gen.Kernel.Points
public import proofs.«01_k».proof.Proof.Bits.ProjData
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

variable (V : (c : Dev nD) → (b : Ref sig .tc) → Buf (Elt F) ((c : Thread nD τ).loc b)) (D : Dev nD → CellTallies nD τ sig Ix) (ι : Ix)

/-! # The projection's body obligation -/

/-- What the pipeline asks of an output's staging buffer after the body at point `t`. -/
def outPost (c : Dev nD) (w : Fin cfg1.W) (t : Fin cfg1.N) : sProp 𝕄 :=
  match cfg1.idle w (cfg1.grid.coords t) with
  | true =>
    match (cfg1.win w).flush t with
    | false => iprop(∃ d, owns (c : Thread nD τ) ((cfg1.win w).stage (cfg1.slots t w)) fullShare (((dat1 (Ix := Ix) (U := U) (Lvl := Lvl) V D) c).before w t d))
    | true => owns (c : Thread nD τ) ((cfg1.win w).stage (cfg1.slots t w)) fullShare (((dat1 (Ix := Ix) (U := U) (Lvl := Lvl) V D) c).after w t)
  | false => owns (c : Thread nD τ) ((cfg1.win w).stage (cfg1.slots t w)) fullShare (((dat1 (Ix := Ix) (U := U) (Lvl := Lvl) V D) c).after w t)

abbrev ms1_0 (t : Fin cfg1.N) : Memref sig .tc .vmem S512x7168 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S896x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S56x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S56x1024 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x8x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x8x128 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x8x128 .bf16 := win1_8.stage (cfg1.slots t 8)
abbrev hs1_8 (t : Fin cfg1.N) : (ms1_8 t).IsWhole := hstage1_8 ((cfg1.slots t 8).cast nbuf1_8)

theorem before6_last (c : Dev nD) (t : Fin cfg1.N) (ht : t.val = 159) (d) : ((dat1 (Ix := Ix) (U := U) (Lvl := Lvl) V D) c).before 6 t d = ((dat1 (Ix := Ix) (U := U) (Lvl := Lvl) V D) c).after 6 t := by
  have hcarry : ∀ (t : Fin cfg1.N) (_ : t.val ≠ 0), cfg1.idle 6 (cfg1.grid.coords t) = true → cfg1.fresh 6 t.val = false →
      ((dat1 (Ix := Ix) (U := U) (Lvl := Lvl) V D) c).after 6 t = ((dat1 (Ix := Ix) (U := U) (Lvl := Lvl) V D) c).after 6 ⟨t.val - 1, by omega⟩ := by
    intro t h0 _ hf
    rw [fresh6_eq t.val t.isLt.le] at hf
    have hk : 127 < t.val := by
      simp only [fresh6, Bool.or_eq_false_iff, decide_eq_false_iff_not] at hf
      omega
    exact congrArg (tileAt V c) (Fin.ext (show min t.val 127 = min (t.val - 1) 127 by omega))
  rw [((dat1 (Ix := Ix) (U := U) (Lvl := Lvl) V D) c).before_out_traj 6 rfl (fun _ _ => rfl) hcarry t.val t rfl d, fresh6_eq t.val t.isLt.le,
    show fresh6 t.val = false by rw [ht]; decide, if_neg Bool.false_ne_true]
  exact congrArg (tileAt V c) (Fin.ext (show min (t.val - 1) 127 = min t.val 127 by omega))

/-- What the run leaves in output 6's buffer is what the pipeline asks for. -/
theorem hand6 (c : Dev nD) (t : Fin cfg1.N) (d) :
    (owns (c : Thread nD τ) (ms1_6 t) fullShare (if k1_cond2 (grid1.coords t) = 1#1 then tileAt V c t else ((dat1 (Ix := Ix) (U := U) (Lvl := Lvl) V D) c).before 6 t d) : sProp 𝕄)
      ⊢ outPost V D c 6 t := by
  unfold outPost
  by_cases hc : t.val < 128
  · have h1 : k1_cond2 (grid1.coords t) = 1#1 := (live6 t).2 hc
    have hi : cfg1.idle 6 (cfg1.grid.coords t) = false := by
      show (!(k1_cond2 (grid1.coords t) == 1#1)) = false
      rw [h1]; rfl
    rw [hi, if_pos h1]
    have ha : ((dat1 (Ix := Ix) (U := U) (Lvl := Lvl) V D) c).after 6 t = tileAt V c t := by exact (congrArg (tileAt V c) (Fin.ext (show min t.val 127 = t.val by omega)))
    rw [ha]
  · have h1 : ¬ k1_cond2 (grid1.coords t) = 1#1 := fun h => hc ((live6 t).1 h)
    have hi : cfg1.idle 6 (cfg1.grid.coords t) = true := by
      show (!(k1_cond2 (grid1.coords t) == 1#1)) = true
      rw [beq_false_of_ne h1]; rfl
    rw [hi, if_neg h1]
    cases hf : (cfg1.win 6).flush t
    · iintro H; iexists d; iexact H
    · rw [before6_last V D c t (flush6_idle t hc hf) d]
theorem before7_last (c : Dev nD) (t : Fin cfg1.N) (ht : t.val = 159) (d) : ((dat1 (Ix := Ix) (U := U) (Lvl := Lvl) V D) c).before 7 t d = ((dat1 (Ix := Ix) (U := U) (Lvl := Lvl) V D) c).after 7 t := by
  have hcarry : ∀ (t : Fin cfg1.N) (_ : t.val ≠ 0), cfg1.idle 7 (cfg1.grid.coords t) = true → cfg1.fresh 7 t.val = false →
      ((dat1 (Ix := Ix) (U := U) (Lvl := Lvl) V D) c).after 7 t = ((dat1 (Ix := Ix) (U := U) (Lvl := Lvl) V D) c).after 7 ⟨t.val - 1, by omega⟩ := by
    intro t h0 _ hf
    rw [fresh7_eq t.val t.isLt.le] at hf
    have hk : 143 < t.val := by
      simp only [fresh7, Bool.or_eq_false_iff, decide_eq_false_iff_not] at hf
      omega
    exact congrArg (tileAt V c) (Fin.ext (show min t.val 143 = min (t.val - 1) 143 by omega))
  rw [((dat1 (Ix := Ix) (U := U) (Lvl := Lvl) V D) c).before_out_traj 7 rfl (fun _ _ => rfl) hcarry t.val t rfl d, fresh7_eq t.val t.isLt.le,
    show fresh7 t.val = false by rw [ht]; decide, if_neg Bool.false_ne_true]
  exact congrArg (tileAt V c) (Fin.ext (show min (t.val - 1) 143 = min t.val 143 by omega))

/-- What the run leaves in output 7's buffer is what the pipeline asks for. -/
theorem hand7 (c : Dev nD) (t : Fin cfg1.N) (d) :
    (owns (c : Thread nD τ) (ms1_7 t) fullShare (if k1_cond3 (grid1.coords t) = 1#1 then tileAt V c t else ((dat1 (Ix := Ix) (U := U) (Lvl := Lvl) V D) c).before 7 t d) : sProp 𝕄)
      ⊢ outPost V D c 7 t := by
  unfold outPost
  by_cases hc : (128 ≤ t.val ∧ t.val < 144)
  · have h1 : k1_cond3 (grid1.coords t) = 1#1 := (live7 t).2 hc
    have hi : cfg1.idle 7 (cfg1.grid.coords t) = false := by
      show (!(k1_cond3 (grid1.coords t) == 1#1)) = false
      rw [h1]; rfl
    rw [hi, if_pos h1]
    have ha : ((dat1 (Ix := Ix) (U := U) (Lvl := Lvl) V D) c).after 7 t = tileAt V c t := by exact (congrArg (tileAt V c) (Fin.ext (show min t.val 143 = t.val by omega)))
    rw [ha]
  · have h1 : ¬ k1_cond3 (grid1.coords t) = 1#1 := fun h => hc ((live7 t).1 h)
    have hi : cfg1.idle 7 (cfg1.grid.coords t) = true := by
      show (!(k1_cond3 (grid1.coords t) == 1#1)) = true
      rw [beq_false_of_ne h1]; rfl
    rw [hi, if_neg h1]
    cases hf : (cfg1.win 7).flush t
    · iintro H; iexists d; iexact H
    · rw [before7_last V D c t (flush7_idle t hc hf) d]

/-- What the run leaves in output 8's buffer is what the pipeline asks for. -/
theorem hand8 (c : Dev nD) (t : Fin cfg1.N) (d) :
    (owns (c : Thread nD τ) (ms1_8 t) fullShare (if k1_cond4 (grid1.coords t) = 1#1 then tileAt V c t else ((dat1 (Ix := Ix) (U := U) (Lvl := Lvl) V D) c).before 8 t d) : sProp 𝕄)
      ⊢ outPost V D c 8 t := by
  unfold outPost
  by_cases hc : 144 ≤ t.val
  · have h1 : k1_cond4 (grid1.coords t) = 1#1 := (live8 t).2 hc
    have hi : cfg1.idle 8 (cfg1.grid.coords t) = false := by
      show (!(k1_cond4 (grid1.coords t) == 1#1)) = false
      rw [h1]; rfl
    rw [hi, if_pos h1]
    have ha : ((dat1 (Ix := Ix) (U := U) (Lvl := Lvl) V D) c).after 8 t = tileAt V c t := by rfl
    rw [ha]
  · have h1 : ¬ k1_cond4 (grid1.coords t) = 1#1 := fun h => hc ((live8 t).1 h)
    have hi : cfg1.idle 8 (cfg1.grid.coords t) = true := by
      show (!(k1_cond4 (grid1.coords t) == 1#1)) = true
      rw [beq_false_of_ne h1]; rfl
    rw [hi, if_neg h1]
    cases hf : (cfg1.win 8).flush t
    · iintro H; iexists d; iexact H
    · rw [flush8_idle t hc] at hf; exact absurd hf Bool.false_ne_true

theorem index_prev1 : ∀ t : Fin cfg1.N, t.val % 16 ≠ 0 →
    (cfg1.win 1).index t = (cfg1.win 1).index ⟨t.val - 1, lt_of_le_of_lt (Nat.sub_le _ _) t.isLt⟩ := by decide +kernel
theorem index_prev2 : ∀ t : Fin cfg1.N, t.val % 16 ≠ 0 →
    (cfg1.win 2).index t = (cfg1.win 2).index ⟨t.val - 1, lt_of_le_of_lt (Nat.sub_le _ _) t.isLt⟩ := by decide +kernel
theorem index_prev3 : ∀ t : Fin cfg1.N, t.val % 16 ≠ 0 →
    (cfg1.win 3).index t = (cfg1.win 3).index ⟨t.val - 1, lt_of_le_of_lt (Nat.sub_le _ _) t.isLt⟩ := by decide +kernel

/-- Two points of one column tile have the same weight tile (`dat` is any proof data over these arrays). -/
theorem wTile_succ {c : Dev nD} (dat : Dat τ (Elt F) Ix ℕ U Lvl cfg1 c) (hA : ∀ w, dat.A w = V c (Pipeline.arrRef spec1 w))
    (t t' : Fin cfg1.N) (h : t'.val = t.val + 1) (hm : t'.val % 16 ≠ 0) : wTile V c t' = wTile V c t := by
  have e : ⟨t'.val - 1, lt_of_le_of_lt (Nat.sub_le _ _) t'.isLt⟩ = t := Fin.ext (by show t'.val - 1 = t.val; omega)
  have f1 : ∀ s d, dat.fetched 1 s d = iblk1 V c 1 s := fun s d => by
    unfold Dat.fetched Dat.blockOf iblk1; rw [hA]; try rfl
  have h1 : iblk1 V c 1 t' = iblk1 V c 1 t :=
    (f1 t' (iblk1 V c 1 t)).symm.trans ((dat.fetched_congr 1 ((index_prev1 t' hm).trans (congrArg _ e)) rfl _).trans (f1 t (iblk1 V c 1 t)))
  have f2 : ∀ s d, dat.fetched 2 s d = iblk1 V c 2 s := fun s d => by
    unfold Dat.fetched Dat.blockOf iblk1; rw [hA]; try rfl
  have h2 : iblk1 V c 2 t' = iblk1 V c 2 t :=
    (f2 t' (iblk1 V c 2 t)).symm.trans ((dat.fetched_congr 2 ((index_prev2 t' hm).trans (congrArg _ e)) rfl _).trans (f2 t (iblk1 V c 2 t)))
  have f3 : ∀ s d, dat.fetched 3 s d = iblk1 V c 3 s := fun s d => by
    unfold Dat.fetched Dat.blockOf iblk1; rw [hA]; try rfl
  have h3 : iblk1 V c 3 t' = iblk1 V c 3 t :=
    (f3 t' (iblk1 V c 3 t)).symm.trans ((dat.fetched_congr 3 ((index_prev3 t' hm).trans (congrArg _ e)) rfl _).trans (f3 t (iblk1 V c 3 t)))
  unfold wTile
  exact congr (congrArg₂ deqTile h1 h2) h3

/-- What the body is called with at point `t`, and what it returns. -/
def bodyPre1 (c : Dev nD) (t : Fin cfg1.N) : sProp 𝕄 :=
  iprop(((dat1 (Ix := Ix) (U := U) (Lvl := Lvl) V D) c).Φ t.castSucc ∗ ((dat1 (Ix := Ix) (U := U) (Lvl := Lvl) V D) c).owesAt ι t.castSucc
    ∗ (∃ d, owns (c : Thread nD τ) (ms1_0 t) fullShare (((dat1 (Ix := Ix) (U := U) (Lvl := Lvl) V D) c).before 0 t d))
    ∗ (∃ d, owns (c : Thread nD τ) (ms1_1 t) fullShare (((dat1 (Ix := Ix) (U := U) (Lvl := Lvl) V D) c).before 1 t d))
    ∗ (∃ d, owns (c : Thread nD τ) (ms1_2 t) fullShare (((dat1 (Ix := Ix) (U := U) (Lvl := Lvl) V D) c).before 2 t d))
    ∗ (∃ d, owns (c : Thread nD τ) (ms1_3 t) fullShare (((dat1 (Ix := Ix) (U := U) (Lvl := Lvl) V D) c).before 3 t d))
    ∗ (∃ d, owns (c : Thread nD τ) (ms1_4 t) fullShare (((dat1 (Ix := Ix) (U := U) (Lvl := Lvl) V D) c).before 4 t d))
    ∗ (∃ d, owns (c : Thread nD τ) (ms1_5 t) fullShare (((dat1 (Ix := Ix) (U := U) (Lvl := Lvl) V D) c).before 5 t d))
    ∗ (∃ d, owns (c : Thread nD τ) (ms1_6 t) fullShare (((dat1 (Ix := Ix) (U := U) (Lvl := Lvl) V D) c).before 6 t d))
    ∗ (∃ d, owns (c : Thread nD τ) (ms1_7 t) fullShare (((dat1 (Ix := Ix) (U := U) (Lvl := Lvl) V D) c).before 7 t d))
    ∗ (∃ d, owns (c : Thread nD τ) (ms1_8 t) fullShare (((dat1 (Ix := Ix) (U := U) (Lvl := Lvl) V D) c).before 8 t d)))

def bodyPost1 (c : Dev nD) (t : Fin cfg1.N) : sProp 𝕄 :=
  iprop(((dat1 (Ix := Ix) (U := U) (Lvl := Lvl) V D) c).Φ t.succ ∗ ((dat1 (Ix := Ix) (U := U) (Lvl := Lvl) V D) c).owesAt ι t.succ
    ∗ owns (c : Thread nD τ) (ms1_0 t) fullShare (iblk1 V c 0 t)
    ∗ owns (c : Thread nD τ) (ms1_1 t) fullShare (iblk1 V c 1 t)
    ∗ owns (c : Thread nD τ) (ms1_2 t) fullShare (iblk1 V c 2 t)
    ∗ owns (c : Thread nD τ) (ms1_3 t) fullShare (iblk1 V c 3 t)
    ∗ owns (c : Thread nD τ) (ms1_4 t) fullShare (iblk1 V c 4 t)
    ∗ owns (c : Thread nD τ) (ms1_5 t) fullShare (iblk1 V c 5 t)
    ∗ outPost V D c 6 t
    ∗ outPost V D c 7 t
    ∗ outPost V D c 8 t)

theorem proj_sound_body (c : Dev nD) (t : Fin cfg1.N) :
    bodyPre1 (U := U) (Lvl := Lvl) V D ι c t ⊢ wp frame (wpE (defs₀ (F := F)) 𝒱₀ c none) Set.univ (bodyAt1 t) (fun _ => bodyPost1 (U := U) (Lvl := Lvl) V D ι c t) := by
  unfold bodyPre1 bodyPost1 bodyAt1
  simp only [before1_0, before1_1, before1_2, before1_3, before1_4, before1_5]
  rw [show ((dat1 (Ix := Ix) (U := U) (Lvl := Lvl) V D) c).Φ t.succ = Φ1 V c t.succ from rfl, show ((dat1 (Ix := Ix) (U := U) (Lvl := Lvl) V D) c).Φ t.castSucc = Φ1 V c t.castSucc from rfl,
    show ((dat1 (Ix := Ix) (U := U) (Lvl := Lvl) V D) c).owesAt ι t.succ = ((dat1 (Ix := Ix) (U := U) (Lvl := Lvl) V D) c).owesAt ι t.castSucc from rfl]
  unfold Φ1
  iintro ⟨⟨Hr, ⟨%s, %hs, H9⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (proj_run 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (Memref.whole cc1_scratch0) (Memref.isWhole_whole _)
    (iblk1 V c 0 t) (iblk1 V c 1 t) (iblk1 V c 2 t) (iblk1 V c 3 t) (iblk1 V c 4 t) (iblk1 V c 5 t)
    (((dat1 (Ix := Ix) (U := U) (Lvl := Lvl) V D) c).before 6 t d6) (((dat1 (Ix := Ix) (U := U) (Lvl := Lvl) V D) c).before 7 t d7) (((dat1 (Ix := Ix) (U := U) (Lvl := Lvl) V D) c).before 8 t d8) s
    (fun hn => hs t.isLt (fun h0 => hn (fills_of t h0))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [Hr H9 Hp]
  · isplitl [Hr]; · iexact Hr
    isplitl [H9]
    · iexists (wTile V c t); isplitr
      · ipureintro
        exact fun h hm => (wTile_succ V ((dat1 (Ix := Ix) (U := U) (Lvl := Lvl) V D) c) (fun _ => rfl) t ⟨t.val + 1, h⟩ rfl hm).symm
      iexact H9
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (hand6 V D c t d6); iexact H6
  isplitl [H7]; · iapply (hand7 V D c t d7); iexact H7
  iapply (hand8 V D c t d8); iexact H8

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem proj_obligation (c : Dev nD) : BodyObligation ((dat1 (Ix := Ix) (U := U) (Lvl := Lvl) V D) c) (defs₀ (F := F)) 𝒱₀ ι Set.univ := fun t => by
  rw [bigSep_W1, bigSep_W1, defs₀_row1]
  exact triple_restated (proj_sound_body (U := U) (Lvl := Lvl) 𝒱₀ V D ι c t) rfl .rfl fun _ => .rfl

end Cert.Kernel.Own
end
-- ==== Proof.Bits.Run.lean ====
/-
  The whole program's run: host lines, first call, second call, host lines; its results and its unchanged arguments.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.RegionArraysS
public import Idealize.ShloMosaic.Lib.StableHlo.RunHlo
public import proofs.«01_k».proof.Proof.Gen.Kernel.Regions
public import proofs.«01_k».proof.Proof.Bits.Norm
public import proofs.«01_k».proof.Proof.Bits.ProjBody

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program's run

The host operations before the first call, the two calls, the reshapes after them: the buffers' contents between
these items, and the run that ends with every buffer at the last of them. -/

/-- Nothing is owed at any time. -/
abbrev noDue : Dev nD → CellTallies nD τ sig Unit := fun _ => 0

/-- The one index is assigned at every counter of a TensorCore, all at one level. -/
def lvL : GSem nD τ sig → Finset Unit := fun g => if g.1.2 = .tc then {()} else ∅
abbrev lv0 : GSem nD τ sig → Unit → ℕ := fun _ _ => 0

/-- The buffers of core `c` as the first call finds them, at the TensorCore's references. -/
abbrev Ve0 (c : Dev nD) (b : Ref sig .tc) : Buf (Elt F) ((c : Thread nD τ).loc b) := V1 m c (Proc.devRef .tc b)
/-- The first call's proof data. -/
def d0 (c : Dev nD) : Dat τ (Elt F) Unit ℕ (UR sig nD τ) ℕ cfg0 c := dat0 (Ve0 m) noDue c
/-- The buffers after the first call. -/
def W2 (c : Dev nD) : Valuation τ sig (Elt F) := Pipeline.afterRegion (d0 m c) (V1 m c)
abbrev Ve1 (c : Dev nD) (b : Ref sig .tc) : Buf (Elt F) ((c : Thread nD τ).loc b) := W2 m c (Proc.devRef .tc b)
/-- The second call's proof data. -/
def d1 (c : Dev nD) : Dat τ (Elt F) Unit ℕ (UR sig nD τ) ℕ cfg1 c := dat1 (Ve1 m) noDue c
/-- The buffers after the second call. -/
def W3 (c : Dev nD) : Valuation τ sig (Elt F) := Pipeline.afterRegion (d1 m c) (W2 m c)
/-- The buffers at the end. -/
def W4 (c : Dev nD) : Valuation τ sig (Elt F) := StableHlo.after hostOps2 (W3 m c)

/-- Both calls' proof data. -/
def pd : (p : Fin 2) → (c : Dev nD) → Dat τ (Elt F) Unit ℕ (UR sig nD τ) ℕ (cfgs p) c
  | ⟨0, _⟩ => fun c => d0 m c
  | ⟨1, _⟩ => fun c => d1 m c
  | ⟨_ + 2, h⟩ => absurd h (Nat.not_lt.2 (Nat.le_add_left _ _))

theorem cut (p : Fin 2) : Pipeline.LevelCut (pcfgs (F := F)) adm () lvL lv0 p noDue (fun _ => 0) where
  hι c w s := by simp [lvL]
  hιb _ _ _ := Nat.le_refl _
  hD _ _ _ h := absurd h (Nat.lt_irrefl 0)

theorem arrRefs0_sub : Pipeline.arrRefs (τ := τ) spec0 ⊆ Pipeline.ucRefs τ sig := by decide
theorem arrRefs1_sub : Pipeline.arrRefs (τ := τ) spec1 ⊆ Pipeline.ucRefs τ sig := by decide

/-- What rides beside the buffers: the generator register, and the core owing nothing. -/
def rest (c : Dev nD) : sProp 𝕄 :=
  iprop((∃ W, owes (c : Thread nD τ) (noDue c) W) ∗ (∃ r, prngReg c r) ∗ emp)

/-- Into the second call's invariant: the scratch may hold anything. -/
theorem enter1 (c : Dev nD) :
    iprop(Pipeline.scopedRest (Ix := Unit) (Name := ℕ) (U := UR sig nD τ) (Lvl := ℕ) (Val := Elt F) spec1 c ∗ ∃ r, prngReg c r)
      ⊢ (d1 m c).Φ 0 := by
  show _ ⊢ Φ1 (Ve1 m) c 0
  unfold Φ1 others
  rw [scopedRest1_eq]
  iintro ⟨⟨B0, B1, B2, B3, B4, B5, B6, B7, B8, B9, B10, B11, ⟨%f, Hs⟩⟩, Hp⟩
  isplitl [B0 B1 B2 B3 B4 B5 B6 B7 B8 B9 B10 B11]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact B11
  isplitl [Hs]
  · iexists f
    isplitr; · ipureintro; intro _ h; exact absurd rfl h
    rw [owns_whole]
    iexact Hs
  iexact Hp

/-- Out of the second call's invariant. -/
theorem leave1 (c : Dev nD) : (d1 m c).Φ (Fin.last cfg1.N)
    ⊢ iprop(Pipeline.scopedRest (Ix := Unit) (Name := ℕ) (U := UR sig nD τ) (Lvl := ℕ) (Val := Elt F) spec1 c ∗ ∃ r, prngReg c r) := by
  show Φ1 (Ve1 m) c _ ⊢ _
  unfold Φ1 others
  rw [scopedRest1_eq]
  iintro ⟨⟨B0, B1, B2, B3, B4, B5, B6, B7, B8, B9, B10, B11⟩, ⟨%f, -, Hs⟩, Hp⟩
  isplitr [Hp]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexists f
    rw [owns_whole]
    first | iexact Hs | exact .rfl
  iexact Hp

set_option backward.isDefEq.respectTransparency.types false in
/-- The first call as a segment of the run. -/
def reg0 : RegionSeg (pcfgs (F := F)) adm (pd m) () defs₀ Variants.none lvL lv0 0 :=
  Pipeline.RegionSeg.ofHeld (pcfgs (F := F)) adm (pd m) () defs₀ Variants.none lvL lv0 0 noDue
    (fun c => iprop(∃ r, prngReg c r)) (fun c => iprop(∃ r, prngReg c r)) launch0.toP rfl
    (fun c => (norm_obligation (U := UR sig nD τ) (Lvl := ℕ) Variants.none (Ve0 m) noDue () c).loose) (fun _ _ => rfl) (fun _ => rfl)
    (fun c => (d0 m c).share_full fun _ => rfl) (fun _ => .rfl) (fun _ => .rfl) (fun _ => 0) (cut 0)
    (fun c => StableHlo.held (c : Thread nD τ) (Pipeline.ucRefs τ sig \ Pipeline.arrRefs (τ := τ) spec0) (V1 m c))
    (V1 m) (W2 m) (fun _ _ => rfl) (fun c w => (Pipeline.afterRegion_arr (d0 m c) (V1 m c) launch0.win.arr_inj w).symm)

set_option backward.isDefEq.respectTransparency.types false in
/-- The second call as a segment of the run. -/
def reg1 : RegionSeg (pcfgs (F := F)) adm (pd m) () defs₀ Variants.none lvL lv0 1 :=
  Pipeline.RegionSeg.ofHeld (pcfgs (F := F)) adm (pd m) () defs₀ Variants.none lvL lv0 1 noDue
    (fun c => iprop(∃ r, prngReg c r)) (fun c => iprop(∃ r, prngReg c r)) launch1.toP rfl
    (fun c => (proj_obligation (U := UR sig nD τ) (Lvl := ℕ) Variants.none (Ve1 m) noDue () c).loose) (fun _ _ => rfl) (fun _ => rfl)
    (fun c => (d1 m c).share_full fun _ => rfl) (fun c => enter1 m c) (fun c => leave1 m c) (fun _ => 0) (cut 1)
    (fun c => StableHlo.held (c : Thread nD τ) (Pipeline.ucRefs τ sig \ Pipeline.arrRefs (τ := τ) spec1) (W2 m c))
    (W2 m) (W3 m) (fun _ _ => rfl) (fun c w => (Pipeline.afterRegion_arr (d1 m c) (W2 m c) launch1.win.arr_inj w).symm)

/-- What the call is entered with, and what it leaves. -/
theorem reg0_pre (c : Dev nD) : iprop(StableHlo.held (c : Thread nD τ) (Pipeline.ucRefs τ sig) (V1 m c) ∗ rest c) ⊢ (reg0 m).pre c := by
  show _ ⊢ iprop(StableHlo.held (c : Thread nD τ) (Pipeline.arrRefs (τ := τ) spec0) (V1 m c) ∗ (∃ r, prngReg c r)
    ∗ StableHlo.held (c : Thread nD τ) (Pipeline.ucRefs τ sig \ Pipeline.arrRefs (τ := τ) spec0) (V1 m c) ∗ ∃ W, owes (c : Thread nD τ) (noDue c) W)
  unfold rest
  rw [StableHlo.held_sub_split (c : Thread nD τ) arrRefs0_sub (V1 m c)]
  iintro ⟨⟨Ha, Hr⟩, HO, Hp, -⟩
  isplitl [Ha]; · iexact Ha
  isplitl [Hp]; · iexact Hp
  isplitl [Hr]; · iexact Hr
  iexact HO

theorem reg0_post (c : Dev nD) : (reg0 m).post c ⊢ iprop(StableHlo.held (c : Thread nD τ) (Pipeline.ucRefs τ sig) (W2 m c) ∗ rest c) := by
  show iprop(StableHlo.held (c : Thread nD τ) (Pipeline.arrRefs (τ := τ) spec0) (W2 m c) ∗ (∃ r, prngReg c r)
    ∗ StableHlo.held (c : Thread nD τ) (Pipeline.ucRefs τ sig \ Pipeline.arrRefs (τ := τ) spec0) (V1 m c) ∗ ∃ W, owes (c : Thread nD τ) (noDue c) W) ⊢ _
  unfold rest
  rw [StableHlo.held_sub_split (c : Thread nD τ) arrRefs0_sub (W2 m c),
    StableHlo.held_congr (c : Thread nD τ) (S := Pipeline.ucRefs τ sig \ Pipeline.arrRefs (τ := τ) spec0) (V := W2 m c) (V' := V1 m c)
      (Pipeline.afterRegion_off (d0 m c) (V1 m c) (Pipeline.ucRefs τ sig))]
  iintro ⟨Ha, Hp, Hr, HO⟩
  isplitl [Ha Hr]; · isplitl [Ha] <;> iassumption
  isplitl [HO]; · iexact HO
  isplitl [Hp]; · iexact Hp
  iempintro

/-- What the call is entered with, and what it leaves. -/
theorem reg1_pre (c : Dev nD) : iprop(StableHlo.held (c : Thread nD τ) (Pipeline.ucRefs τ sig) (W2 m c) ∗ rest c) ⊢ (reg1 m).pre c := by
  show _ ⊢ iprop(StableHlo.held (c : Thread nD τ) (Pipeline.arrRefs (τ := τ) spec1) (W2 m c) ∗ (∃ r, prngReg c r)
    ∗ StableHlo.held (c : Thread nD τ) (Pipeline.ucRefs τ sig \ Pipeline.arrRefs (τ := τ) spec1) (W2 m c) ∗ ∃ W, owes (c : Thread nD τ) (noDue c) W)
  unfold rest
  rw [StableHlo.held_sub_split (c : Thread nD τ) arrRefs1_sub (W2 m c)]
  iintro ⟨⟨Ha, Hr⟩, HO, Hp, -⟩
  isplitl [Ha]; · iexact Ha
  isplitl [Hp]; · iexact Hp
  isplitl [Hr]; · iexact Hr
  iexact HO

theorem reg1_post (c : Dev nD) : (reg1 m).post c ⊢ iprop(StableHlo.held (c : Thread nD τ) (Pipeline.ucRefs τ sig) (W3 m c) ∗ rest c) := by
  show iprop(StableHlo.held (c : Thread nD τ) (Pipeline.arrRefs (τ := τ) spec1) (W3 m c) ∗ (∃ r, prngReg c r)
    ∗ StableHlo.held (c : Thread nD τ) (Pipeline.ucRefs τ sig \ Pipeline.arrRefs (τ := τ) spec1) (W2 m c) ∗ ∃ W, owes (c : Thread nD τ) (noDue c) W) ⊢ _
  unfold rest
  rw [StableHlo.held_sub_split (c : Thread nD τ) arrRefs1_sub (W3 m c),
    StableHlo.held_congr (c : Thread nD τ) (S := Pipeline.ucRefs τ sig \ Pipeline.arrRefs (τ := τ) spec1) (V := W3 m c) (V' := W2 m c)
      (Pipeline.afterRegion_off (d1 m c) (W2 m c) (Pipeline.ucRefs τ sig))]
  iintro ⟨Ha, Hp, Hr, HO⟩
  isplitl [Ha Hr]; · isplitl [Ha] <;> iassumption
  isplitl [HO]; · iexact HO
  isplitl [Hp]; · iexact Hp
  iempintro

/-- The reshapes after the calls, as a segment. -/
def seg2 : HostSeg (Ix := Unit) (Name := ℕ) (U := UR sig nD τ) (Lvl := ℕ) (pcfgs (F := F)) defs₀ Variants.none lvL lv0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rest

/-- @main as its four segments. -/
abbrev mainSegs : List (Seg (pcfgs (F := F)) adm (pd m) () defs₀ Variants.none lvL lv0) :=
  [.host (Gen.seg0 m Variants.none lvL lv0 (fun _ => rest)), .region (reg0 m), .region (reg1 m), .host (seg2 m)]

set_option backward.isDefEq.respectTransparency.types false in
/-- Every run ends, with every unscoped buffer at `W4` and every counter at zero. -/
theorem run_all : θ_run defs (onTc (τ := τ) (main (F := F))) ⟨m, fun _ => 0, ρ⟩ (fun r =>
    (∀ c : Dev nD, ∀ b ∈ Pipeline.ucRefs τ sig, r.2.mem (c, b) = W4 m c b) ∧ r.2.sem = fun _ => 0) := by
  refine Pipeline.θ_run_regions_kit_dev_sems (pcfgs (F := F)) adm (pd m) () cellOf_inj emb₁ defs₀ Variants.none lvL lv0 m ρ main
    (fun _ => mainSegs m)
    (fun c Q => by
      rewrite [main_chain c, Seg.run_eq_chain,
        show (mainSegs m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [mainSegs, Seg.pipes_host, Seg.pipes_region, Seg.pipes_nil]; decide) (O₀ := 0)
    (hL := fun g h => if_neg h) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ rest c))
    (Tₙ := fun c => StableHlo.held (c : Thread nD τ) (Pipeline.ucRefs τ sig) (W4 m c))
    (hch := fun c => ⟨.rfl, reg0_pre m c, (reg0_post m c).trans (reg1_pre m c), reg1_post m c, ?_⟩)
    (hinit := ?_) (QY := fun c s => ∀ b ∈ Pipeline.ucRefs τ sig, s.mem (c, b) = W4 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (W4 m c) ∗ rest c) ⊢ _
    unfold rest
    iintro ⟨Hh, HO, -, -⟩
    isplitl [Hh] <;> iassumption
  · refine Pipeline.initEach lvL lv0 fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    unfold rest
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (W4 m c) s') $$ [Hh HSI]
    · isplitl [Hh] <;> iassumption
    imodintro; iexact Hr

/-! ## Reading the last contents -/

theorem W2_of (c : Dev nD) (r : Ref sig .tc) (h : ∀ w, Pipeline.arrRef spec0 w = r → (cfg0.win w).isOut = false) :
    W2 m c r = V1 m c r :=
  Pipeline.afterRegion_keeps (d0 m c) (V1 m c) launch0.win.arr_inj (fun _ => rfl) r h

theorem W3_of (c : Dev nD) (r : Ref sig .tc) (h : ∀ w, Pipeline.arrRef spec1 w = r → (cfg1.win w).isOut = false) :
    W3 m c r = W2 m c r :=
  Pipeline.afterRegion_keeps (d1 m c) (W2 m c) launch1.win.arr_inj (fun _ => rfl) r h

theorem W4_of (c : Dev nD) (r : Ref sig .tc) (h : r ∉ hostOps2_W) : W4 m c r = W3 m c r :=
  StableHlo.after_of_writes_sub hostOps2 _ hostOps2_writes h

/-- A reference written by no item ends as launched. -/
theorem W4_launch (c : Dev nD) (r : Ref sig .tc) (h1 : r ∉ hostOps0_W) (h4 : r ∉ hostOps2_W)
    (h2 : ∀ w, Pipeline.arrRef spec0 w = r → (cfg0.win w).isOut = false)
    (h3 : ∀ w, Pipeline.arrRef spec1 w = r → (cfg1.win w).isOut = false) : W4 m c r = m ((c : Thread nD τ).loc r) :=
  (W4_of m c r h4).trans <| (W3_of m c r h3).trans <| (W2_of m c r h2).trans <| V1_of m c r h1

theorem mem_uc (r : Ref sig .tc) (h : (Proc.devRef (τ := τ) .tc r).isScoped = false) : Proc.devRef .tc r ∈ Pipeline.ucRefs τ sig :=
  Finset.mem_filter.mpr ⟨StableHlo.devRef_mem_tcRefs r, by simp [h]⟩

/-- Every run ends with the arguments as launched, the three results at `W4`, and every counter at zero. -/
theorem run_values : θ_run defs (onTc (τ := τ) (main (F := F))) ⟨m, fun _ => 0, ρ⟩ (fun r => (∀ c : Dev nD,
      r.2.mem ((c.tc : Thread nD τ).loc main_v16) = W4 m c main_v16
      ∧ r.2.mem ((c.tc : Thread nD τ).loc main_v17) = W4 m c main_v17
      ∧ r.2.mem ((c.tc : Thread nD τ).loc main_v18) = W4 m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run_mono (run_all m ρ)) fun r h => ⟨fun c =>
    ⟨h.1 c _ (mem_uc main_v16 (by decide)), h.1 c _ (mem_uc main_v17 (by decide)), h.1 c _ (mem_uc main_v18 (by decide)),
      (h.1 c _ (mem_uc main_arg0 (by decide))).trans (W4_launch m c main_arg0 (by decide) (by decide) (by decide) (by decide)),
      (h.1 c _ (mem_uc main_arg1 (by decide))).trans (W4_launch m c main_arg1 (by decide) (by decide) (by decide) (by decide)),
      (h.1 c _ (mem_uc main_arg2 (by decide))).trans (W4_launch m c main_arg2 (by decide) (by decide) (by decide) (by decide)),
      (h.1 c _ (mem_uc main_arg3 (by decide))).trans (W4_launch m c main_arg3 (by decide) (by decide) (by decide) (by decide)),
      (h.1 c _ (mem_uc main_arg4 (by decide))).trans (W4_launch m c main_arg4 (by decide) (by decide) (by decide) (by decide)),
      (h.1 c _ (mem_uc main_arg5 (by decide))).trans (W4_launch m c main_arg5 (by decide) (by decide) (by decide) (by decide))⟩, h.2⟩

end Cert.Kernel.Own
end
-- ==== Proof.Ideal.Norm.lean ====
/-
  The first call: the normalised rows and the tables of cosines and sines.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

variable (V : (c : Dev nD) → (b : Ref sig .tc) → Buf (Elt F) ((c : Thread nD τ).loc b)) (D : Dev nD → CellTallies nD τ sig Ix)

/-! # The normalisation's body, proof data and body obligation

Each of the 32 points normalises 256 rows and writes the cosine and the signed sine of their positions. -/

/-- The sine block with the sign of the rotation: negated on the even lanes. -/
def signedSin (x2 : Vec F S256x1 .i32) (x3 : Vec F S1x128 .f32) : Vec F S256x128 .f32 :=
  k0_pay1 (k0_pay4 x2 x3) (Scalar.select (Scalar.cmpi .eq 2#32 0#32) 1#32 2#32) k0_pay6 k0_pay7 0#32

set_option maxRecDepth 65536 in
set_option maxHeartbeats 400000 in
/-- The body on any staging memrefs. -/
theorem norm_run (c : Dev nD) (i : grid0.Coords)
  (arg1 : Memref sig .tc .vmem S256x7168 .bf16) (harg1 : arg1.IsWhole)
  (arg2 : Memref sig .tc .vmem S1x7168 .f32) (harg2 : arg2.IsWhole)
  (arg3 : Memref sig .tc .vmem S256x1 .i32) (harg3 : arg3.IsWhole)
  (arg4 : Memref sig .tc .vmem S1x128 .f32) (harg4 : arg4.IsWhole)
  (arg5 : Memref sig .tc .vmem S256x7168 .bf16) (harg5 : arg5.IsWhole)
  (arg6 : Memref sig .tc .vmem S256x128 .f32) (harg6 : arg6.IsWhole)
  (arg7 : Memref sig .tc .vmem S256x128 .f32) (harg7 : arg7.IsWhole)
    (x0 : Vec F S256x7168 .bf16) (x1 : Vec F S1x7168 .f32) (x2 : Vec F S256x1 .i32) (x3 : Vec F S1x128 .f32)
    (y4 : Vec F S256x7168 .bf16) (y5 y6 : Vec F S256x128 .f32) (E : Set ℕ) (K : PUnit → sProp 𝕄) :
    iprop(owns (c : Thread nD τ) arg1 fullShare x0 ∗ owns (c : Thread nD τ) arg2 fullShare x1
      ∗ owns (c : Thread nD τ) arg3 fullShare x2 ∗ owns (c : Thread nD τ) arg4 fullShare x3
      ∗ owns (c : Thread nD τ) arg5 fullShare y4 ∗ owns (c : Thread nD τ) arg6 fullShare y5
      ∗ owns (c : Thread nD τ) arg7 fullShare y6
      ∗ (iprop(owns (c : Thread nD τ) arg1 fullShare x0 ∗ owns (c : Thread nD τ) arg2 fullShare x1
          ∗ owns (c : Thread nD τ) arg3 fullShare x2 ∗ owns (c : Thread nD τ) arg4 fullShare x3
          ∗ owns (c : Thread nD τ) arg5 fullShare (k0_pay2 x0 x1) ∗ owns (c : Thread nD τ) arg6 fullShare (k0_pay5 x2 x3)
          ∗ owns (c : Thread nD τ) arg7 fullShare (signedSin x2 x3))
        -∗ K ⟨⟩))
    ⊢ wp frame (wpE (defs₀ (F := F)) 𝒱₀ c none) E (cc0_norm i arg1 harg1 arg2 harg2 arg3 harg3 arg4 harg4 arg5 harg5 arg6 harg6 arg7 harg7) K := by
  simp only [cc0_norm_eq_skeleton]; unfold cc0_norm_skel
  simp only [k0_part1_eq_skeleton]
  unfold owns
  iintro ⟨⟨%f0, %hf0, H0⟩, ⟨%f1, %hf1, H1⟩, ⟨%f2, %hf2, H2⟩, ⟨%f3, %hf3, H3⟩, ⟨%f4, -, H4⟩, ⟨%f5, -, H5⟩, ⟨%f6, -, H6⟩, Hk⟩
  subst hf0; subst hf1; subst hf2; subst hf3
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro; rw [View.read_writes_full, View.readAt_full, View.readAt_full]
  isplitl [H5]
  · iexists _; isplitr
    swap; · iexact H5
    ipureintro; rw [View.read_writes_full, View.readAt_full, View.readAt_full]
  iexists _; isplitr
  swap; · iexact H6
  ipureintro; unfold signedSin; rw [View.read_writes_full]; unfold norm_run.sl.r; dsimp only; rw [View.readAt_full, View.readAt_full]; first | done | rfl

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the normalisation's pipeline on core `c`. -/
def dat0 (c : Dev nD) : Dat τ (Elt F) Ix ℕ U Lvl cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay5 (iblk0 V c 2 t) (iblk0 V c 3 t)
    | ⟨6, _⟩ => signedSin (iblk0 V c 2 t) (iblk0 V c 3 t)
  Φ _ := iprop(Pipeline.scopedRest (Ix := Ix) (Name := ℕ) (U := U) (Lvl := Lvl) (Val := Elt F) spec0 c ∗ ∃ r, prngReg c r)
  q _ := fullShare
  owed _ := D c

variable (ι : Ix)

theorem before0_0 (c : Dev nD) (t : Fin cfg0.N) (d) : ((dat0 (Ix := Ix) (U := U) (Lvl := Lvl) V D) c).before 0 t d = iblk0 V c 0 t :=
  (Dat.before_in_eq_fetched ((dat0 (Ix := Ix) (U := U) (Lvl := Lvl) V D) c) 0 rfl (fun _ => rfl) (fun _ _ _ => rfl) (fun _ => rfl) t d).trans rfl
theorem before0_1 (c : Dev nD) (t : Fin cfg0.N) (d) : ((dat0 (Ix := Ix) (U := U) (Lvl := Lvl) V D) c).before 1 t d = iblk0 V c 1 t :=
  (Dat.before_in_eq_fetched ((dat0 (Ix := Ix) (U := U) (Lvl := Lvl) V D) c) 1 rfl (fun _ => rfl) (fun _ _ _ => rfl) (fun _ => rfl) t d).trans rfl
theorem before0_2 (c : Dev nD) (t : Fin cfg0.N) (d) : ((dat0 (Ix := Ix) (U := U) (Lvl := Lvl) V D) c).before 2 t d = iblk0 V c 2 t :=
  (Dat.before_in_eq_fetched ((dat0 (Ix := Ix) (U := U) (Lvl := Lvl) V D) c) 2 rfl (fun _ => rfl) (fun _ _ _ => rfl) (fun _ => rfl) t d).trans rfl
theorem before0_3 (c : Dev nD) (t : Fin cfg0.N) (d) : ((dat0 (Ix := Ix) (U := U) (Lvl := Lvl) V D) c).before 3 t d = iblk0 V c 3 t :=
  (Dat.before_in_eq_fetched ((dat0 (Ix := Ix) (U := U) (Lvl := Lvl) V D) c) 3 rfl (fun _ => rfl) (fun _ _ _ => rfl) (fun _ => rfl) t d).trans rfl

abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x7168 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)

/-- What the body is called with at point `t`, and what it returns. -/
def bodyPre0 (c : Dev nD) (t : Fin cfg0.N) : sProp 𝕄 :=
  iprop(((dat0 (Ix := Ix) (U := U) (Lvl := Lvl) V D) c).Φ t.castSucc ∗ ((dat0 (Ix := Ix) (U := U) (Lvl := Lvl) V D) c).owesAt ι t.castSucc
    ∗ (∃ d, owns (c : Thread nD τ) (ms0_0 t) fullShare (((dat0 (Ix := Ix) (U := U) (Lvl := Lvl) V D) c).before 0 t d))
    ∗ (∃ d, owns (c : Thread nD τ) (ms0_1 t) fullShare (((dat0 (Ix := Ix) (U := U) (Lvl := Lvl) V D) c).before 1 t d))
    ∗ (∃ d, owns (c : Thread nD τ) (ms0_2 t) fullShare (((dat0 (Ix := Ix) (U := U) (Lvl := Lvl) V D) c).before 2 t d))
    ∗ (∃ d, owns (c : Thread nD τ) (ms0_3 t) fullShare (((dat0 (Ix := Ix) (U := U) (Lvl := Lvl) V D) c).before 3 t d))
    ∗ (∃ d, owns (c : Thread nD τ) (ms0_4 t) fullShare (((dat0 (Ix := Ix) (U := U) (Lvl := Lvl) V D) c).before 4 t d))
    ∗ (∃ d, owns (c : Thread nD τ) (ms0_5 t) fullShare (((dat0 (Ix := Ix) (U := U) (Lvl := Lvl) V D) c).before 5 t d))
    ∗ (∃ d, owns (c : Thread nD τ) (ms0_6 t) fullShare (((dat0 (Ix := Ix) (U := U) (Lvl := Lvl) V D) c).before 6 t d)))

def bodyPost0 (c : Dev nD) (t : Fin cfg0.N) : sProp 𝕄 :=
  iprop(((dat0 (Ix := Ix) (U := U) (Lvl := Lvl) V D) c).Φ t.succ ∗ ((dat0 (Ix := Ix) (U := U) (Lvl := Lvl) V D) c).owesAt ι t.succ
    ∗ owns (c : Thread nD τ) (ms0_0 t) fullShare (((dat0 (Ix := Ix) (U := U) (Lvl := Lvl) V D) c).after 0 t)
    ∗ owns (c : Thread nD τ) (ms0_1 t) fullShare (((dat0 (Ix := Ix) (U := U) (Lvl := Lvl) V D) c).after 1 t)
    ∗ owns (c : Thread nD τ) (ms0_2 t) fullShare (((dat0 (Ix := Ix) (U := U) (Lvl := Lvl) V D) c).after 2 t)
    ∗ owns (c : Thread nD τ) (ms0_3 t) fullShare (((dat0 (Ix := Ix) (U := U) (Lvl := Lvl) V D) c).after 3 t)
    ∗ owns (c : Thread nD τ) (ms0_4 t) fullShare (((dat0 (Ix := Ix) (U := U) (Lvl := Lvl) V D) c).after 4 t)
    ∗ owns (c : Thread nD τ) (ms0_5 t) fullShare (((dat0 (Ix := Ix) (U := U) (Lvl := Lvl) V D) c).after 5 t)
    ∗ owns (c : Thread nD τ) (ms0_6 t) fullShare (((dat0 (Ix := Ix) (U := U) (Lvl := Lvl) V D) c).after 6 t))

theorem norm_sound_body (c : Dev nD) (t : Fin cfg0.N) :
    bodyPre0 (U := U) (Lvl := Lvl) V D ι c t ⊢ wp frame (wpE (defs₀ (F := F)) 𝒱₀ c none) Set.univ (bodyAt0 t) (fun _ => bodyPost0 (U := U) (Lvl := Lvl) V D ι c t) := by
  unfold bodyPre0 bodyPost0 bodyAt0
  simp only [before0_0, before0_1, before0_2, before0_3]
  rw [show ((dat0 (Ix := Ix) (U := U) (Lvl := Lvl) V D) c).Φ t.succ = ((dat0 (Ix := Ix) (U := U) (Lvl := Lvl) V D) c).Φ t.castSucc from rfl,
    show ((dat0 (Ix := Ix) (U := U) (Lvl := Lvl) V D) c).owesAt ι t.succ = ((dat0 (Ix := Ix) (U := U) (Lvl := Lvl) V D) c).owesAt ι t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (norm_run 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t)
    (((dat0 (Ix := Ix) (U := U) (Lvl := Lvl) V D) c).before 4 t d4) (((dat0 (Ix := Ix) (U := U) (Lvl := Lvl) V D) c).before 5 t d5) (((dat0 (Ix := Ix) (U := U) (Lvl := Lvl) V D) c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem norm_obligation (c : Dev nD) : BodyObligation ((dat0 (Ix := Ix) (U := U) (Lvl := Lvl) V D) c) (defs₀ (F := F)) 𝒱₀ ι Set.univ := fun t => by
  rw [bigSep_W0, bigSep_W0, defs₀_row0]
  exact triple_restated (norm_sound_body (U := U) (Lvl := Lvl) 𝒱₀ V D ι c t) rfl .rfl fun _ => .rfl

end Cert.KernelIdeal.Own
end
-- ==== Proof.Ideal.Fill.lean ====
/-
  The dequantised weight tile, and the 56 stores that write it into the scratch, one group of 128 rows each.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

/-! # The weight tile: dequantised once per column tile, kept in scratch

Group `g` of the scratch (rows `128 g … 128 g + 127`) is one dequantisation of rows `16 g … 16 g + 15` of the packed
words with row `g` of the zeros and of the scales.  The printed body spreads the 56 groups over 31 functions; every one
of its 56 stores is the same expression `k1_pay2` at its own group. -/

/-- Sixteen rows of packed words from row `a`. -/
def wordsAt (x1 : Vec F S896x1024 .i32) (a : ℕ) : Vec F S16x1024 .i32 :=
  fun j => x1 (fun d => ⟨(![a, 0] d + (j d).val) % S896x1024.size d, Nat.mod_lt _ (by revert d; decide)⟩)

/-- One row of a per-group table. -/
def rowAt {e : EltTy} (x : Vec F S56x1024 e) (g : ℕ) : Vec F S1x1024 e :=
  fun j => x (fun d => ⟨(![g, 0] d + (j d).val) % S56x1024.size d, Nat.mod_lt _ (by revert d; decide)⟩)

/-- The whole dequantised tile. -/
def deqTile (x1 : Vec F S896x1024 .i32) (x2 : Vec F S56x1024 .bf16) (x3 : Vec F S56x1024 .i8) : Vec F S7168x1024 .bf16 :=
  fun y => k1_pay2 (wordsAt x1 ((y 0).val / 128 * 16)) (rowAt x3 ((y 0).val / 128)) (rowAt x2 ((y 0).val / 128))
    (fun d => ⟨(y d).val % S128x1024.size d, Nat.mod_lt _ (by revert d; decide)⟩)

variable {arg3 : Memref sig .tc .vmem S896x1024 .i32} {arg4 : Memref sig .tc .vmem S56x1024 .bf16}
  {arg5 : Memref sig .tc .vmem S56x1024 .i8} (f3 : arg3.view.ty.Contents (Elt F)) (f4 : arg4.view.ty.Contents (Elt F))
  (f5 : arg5.view.ty.Contents (Elt F))

theorem inb_tile (g : Fin 56) : ∀ a, ![128 * g.val, 0] a + S128x1024.size a ≤ S7168x1024.size a := by
  revert g; decide +kernel
theorem inb_words (g : Fin 56) : ∀ a, ![16 * g.val, 0] a + S16x1024.size a ≤ S896x1024.size a := by
  revert g; decide +kernel
theorem inb_row (g : Fin 56) : ∀ a, ![g.val, 0] a + S1x1024.size a ≤ S56x1024.size a := by
  revert g; decide +kernel

/-- The store of group `g`: what it writes and where. -/
def groupPiece (g : Fin 56) : View.Piece (Elt F) S7168x1024 .bf16 :=
  ⟨Rect.unit (s := S7168x1024) ![128 * g.val, 0] S128x1024.size (inb_tile g),
    k1_pay2 (arg3.view.readAt (Elt F) (Rect.unit (s := S896x1024) ![16 * g.val, 0] S16x1024.size (inb_words g)).toLoadRect f3)
      (arg5.view.readAt (Elt F) (Rect.unit (s := S56x1024) ![g.val, 0] S1x1024.size (inb_row g)).toLoadRect f5)
      (arg4.view.readAt (Elt F) (Rect.unit (s := S56x1024) ![g.val, 0] S1x1024.size (inb_row g)).toLoadRect f4)⟩

/-- A group's store is the tile at its rows. -/
theorem groupPiece_eq (g : Fin 56) (x : S128x1024.Idx) :
    (groupPiece f3 f4 f5 g).2 x = deqTile (arg3.view.read (Elt F) f3) (arg4.view.read (Elt F) f4) (arg5.view.read (Elt F) f5)
      ((groupPiece f3 f4 f5 g).1.emb x) := by
  unfold groupPiece
  dsimp only
  have hg : g.val < 56 := g.isLt
  have h0 : (x 0).val < 128 := (x 0).isLt
  have h1 : (x 1).val < 1024 := (x 1).isLt
  have e0 : ((Rect.unit (s := S7168x1024) ![128 * g.val, 0] S128x1024.size (inb_tile g)).emb x 0).val = 128 * g.val + (x 0).val := by
    rw [Rect.emb_apply]; simp [Rect.unit]
  have e1 : ((Rect.unit (s := S7168x1024) ![128 * g.val, 0] S128x1024.size (inb_tile g)).emb x 1).val = (x 1).val := by
    rw [Rect.emb_apply]; simp [Rect.unit]
  have ed : (128 * g.val + (x 0).val) / 128 = g.val := by omega
  unfold deqTile
  rw [e0, ed, Nat.mul_comm g.val 16]
  have hx : (fun d => ⟨((Rect.unit (s := S7168x1024) ![128 * g.val, 0] S128x1024.size (inb_tile g)).emb x d).val % S128x1024.size d,
      Nat.mod_lt _ (by revert d; decide)⟩ : S128x1024.Idx) = x := by
    funext d
    refine Fin.ext ?_
    fin_cases d
    · change ((Rect.unit (s := S7168x1024) ![128 * g.val, 0] S128x1024.size (inb_tile g)).emb x 0).val % 128 = (x 0).val
      rw [e0]; omega
    · change ((Rect.unit (s := S7168x1024) ![128 * g.val, 0] S128x1024.size (inb_tile g)).emb x 1).val % 1024 = (x 1).val
      rw [e1]; omega
  rw [hx]
  have hw : arg3.view.readAt (Elt F) (Rect.unit (s := S896x1024) ![16 * g.val, 0] S16x1024.size (inb_words g)).toLoadRect f3
      = wordsAt (arg3.view.read (Elt F) f3) (16 * g.val) := by
    funext j
    rw [View.readAt_apply]
    unfold wordsAt
    congr 1
    funext d
    refine Fin.ext ?_
    have hj0 : (j 0).val < 16 := (j 0).isLt
    have hj1 : (j 1).val < 1024 := (j 1).isLt
    rw [LoadRect.idx_apply]
    fin_cases d
    · change 16 * g.val + 1 * (j 0).val = (16 * g.val + (j 0).val) % 896
      omega
    · change 0 + 1 * (j 1).val = (0 + (j 1).val) % 1024
      omega
  have hr : ∀ {e : EltTy} {m : Memref sig .tc .vmem S56x1024 e} (f : m.view.ty.Contents (Elt F)),
      m.view.readAt (Elt F) (Rect.unit (s := S56x1024) ![g.val, 0] S1x1024.size (inb_row g)).toLoadRect f
      = rowAt (m.view.read (Elt F) f) (g.val) := by
    intro e m f
    funext j
    rw [View.readAt_apply]
    unfold rowAt
    congr 1
    funext d
    refine Fin.ext ?_
    have hj0 : (j 0).val < 1 := (j 0).isLt
    have hj1 : (j 1).val < 1024 := (j 1).isLt
    rw [LoadRect.idx_apply]
    fin_cases d
    · change g.val + 1 * (j 0).val = (g.val + (j 0).val) % 56
      omega
    · change 0 + 1 * (j 1).val = (0 + (j 1).val) % 1024
      omega
  rw [hw, hr, hr]

/-- The groups, last stored first. -/
def groups : List (Fin 56) :=
  [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

/-- Reading back all 56 stores gives the tile, whatever was there before. -/
theorem read_groups (arg11 : Memref sig .tc .vmem S7168x1024 .bf16) (f : arg11.view.ty.Contents (Elt F)) :
    arg11.view.read (Elt F) (arg11.view.writes (Elt F) f (groups.map (groupPiece f3 f4 f5)))
      = deqTile (arg3.view.read (Elt F) f3) (arg4.view.read (Elt F) f4) (arg5.view.read (Elt F) f5) := by
  funext y
  refine View.read_writes_apply_of_pieces arg11.view f _ _ ?_ y ?_
  · intro p hp x
    obtain ⟨g, -, rfl⟩ := List.mem_map.1 hp
    exact groupPiece_eq f3 f4 f5 g x
  · exact View.cover_of_tiledL (groups.map (groupPiece f3 f4 f5)) S128x1024.size (by sl_kernel_rfl) y

end Cert.KernelIdeal.Own
end
-- ==== Proof.Ideal.FillRun.lean ====
/-
  The body of the second call up to its product: the scratch holds the dequantised tile, filled here or found filled.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Fill
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)
/-- The body's first condition: the first row tile of a column tile. -/
def Fills (i : grid1.Coords) : Prop :=
  Scalar.cmpi .ne (Scalar.extui (Scalar.cmpi .eq (BitVec.ofNat 32 (i 1).val) 0#32) : BitVec 32) 0#32 = 1#1

set_option maxRecDepth 65536 in
set_option maxHeartbeats 1000000 in
/-- The body up to its product: whether it fills the scratch here or finds it filled, the scratch holds the
    dequantised tile, and the product and the first head's parts are taken from it. -/
theorem part33_run (c : Dev nD) (i : grid1.Coords)
  (arg2 : Memref sig .tc .vmem S512x7168 .bf16) (harg2 : arg2.IsWhole)
  (arg3 : Memref sig .tc .vmem S896x1024 .i32) (harg3 : arg3.IsWhole)
  (arg4 : Memref sig .tc .vmem S56x1024 .bf16) (harg4 : arg4.IsWhole)
  (arg5 : Memref sig .tc .vmem S56x1024 .i8) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x8x128 .bf16) (harg8 : arg8.IsWhole)
  (arg9 : Memref sig .tc .vmem S512x8x128 .bf16) (harg9 : arg9.IsWhole)
  (arg10 : Memref sig .tc .vmem S512x8x128 .bf16) (harg10 : arg10.IsWhole)
  (arg11 : Memref sig .tc .vmem S7168x1024 .bf16) (harg11 : arg11.IsWhole)
    (x0 : Vec F S512x7168 .bf16) (x1 : Vec F S896x1024 .i32) (x2 : Vec F S56x1024 .bf16) (x3 : Vec F S56x1024 .i8)
    (x4 x5 : Vec F S512x128 .f32) (s : Vec F S7168x1024 .bf16) (hs : ¬ Fills i → s = deqTile x1 x2 x3)
    (E : Set ℕ) (K : _ → sProp 𝕄) :
    iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ owns (c : Thread nD τ) arg7 fullShare x5
      ∗ owns (c : Thread nD τ) arg11 fullShare s
      ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg11 fullShare (deqTile x1 x2 x3))
        -∗ K ⟨BitVec.ofNat 32 (i 0).val, k1_pay95 x0 (deqTile x1 x2 x3), k1_pay96 x4, k1_pay97 x5, k1_pay98,
            Scalar.cmpi .eq (BitVec.ofNat 32 (i 0).val) 9#32, k1_pay99 x0 (deqTile x1 x2 x3),
            k1_pay100 x0 (deqTile x1 x2 x3), k1_pay101 x0 (deqTile x1 x2 x3) x4⟩))
    ⊢ wp frame (wpE (defs₀ (F := F)) 𝒱₀ c none) E (k1_part33 i arg2 harg2 arg3 harg3 arg4 harg4 arg5 harg5 arg6 harg6 arg7 harg7 arg8 harg8 arg9 harg9 arg10 harg10 arg11 harg11) K := by
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
  unfold k1_part33_skel
  by_cases hc0 : Fills i
  · unfold Fills at hc0
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, Hk⟩
    subst hf1; subst hf2; subst hf3; subst hf0; subst hf4; subst hf5
    sl_exec (disch := first | sl_exact hc0)
    have hL : part33_run.sl.H6_56 c arg3 arg4 arg5 f1 f2 f3 = groups.map (groupPiece f1 f2 f3) := by
      unfold part33_run.sl.H6_56; rfl
    have hv5 : part33_run.sl.v5 c arg3 arg4 arg5 arg11 f1 f2 f3
        = deqTile (arg3.view.read (Elt F) f1) (arg4.view.read (Elt F) f2) (arg5.view.read (Elt F) f3) := by
      unfold part33_run.sl.v5 View.readCov
      rw [View.readAt_full, hL]
      exact read_groups f1 f2 f3 arg11 _
    rw [hL, hv5, View.readAt_full, View.readAt_full, View.readAt_full]
    unfold part33_run.sl.v30
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr
    swap; · iexact H6
    ipureintro; exact read_groups f1 f2 f3 arg11 _
  · have hs' := hs hc0
    unfold Fills at hc0
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    rw [hs'] at hf6
    subst hf1; subst hf2; subst hf3; subst hf0; subst hf4; subst hf5
    sl_exec (disch := first | sl_exact hc0)
    sl_step
    rw [View.readAt_full, View.readAt_full, View.readAt_full, View.readAt_full, hf6]
    unfold part33_run.sl.v30_1
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr
    swap; · iexact H6
    ipureintro; exact hf6

end Cert.KernelIdeal.Own
end
-- ==== Proof.Ideal.Proj.lean ====
/-
  The whole body of the second call on any staging buffers, and the tile it computes.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.FillRun
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

/-! # The projection's body: one tile of outputs, stored to the array its column tile belongs to -/

/-- The tile the body computes at a point: the product with the dequantised tile, its eight heads rotated unless the
    column tile is the values'. -/
def tileOut (i : grid1.Coords) (x0 : Vec F S512x7168 .bf16) (d : Vec F S7168x1024 .bf16) (x4 x5 : Vec F S512x128 .f32) :
    Vec F S512x8x128 .bf16 :=
  k1_pay1 (k1_pay95 x0 d) (k1_pay96 x4) (k1_pay97 x5) k1_pay98 (Scalar.cmpi .eq (BitVec.ofNat 32 (i 0).val) 9#32)
    (k1_pay102 (k1_pay97 x5) (Scalar.cmpi .eq (BitVec.ofNat 32 (i 0).val) 9#32) (k1_pay99 x0 d) (k1_pay100 x0 d) (k1_pay101 x0 d x4))
    (k1_pay103 (k1_pay95 x0 d) (k1_pay96 x4) (k1_pay97 x5) k1_pay98 (Scalar.cmpi .eq (BitVec.ofNat 32 (i 0).val) 9#32))
    (k1_pay104 (k1_pay95 x0 d) (k1_pay96 x4) (k1_pay97 x5) k1_pay98 (Scalar.cmpi .eq (BitVec.ofNat 32 (i 0).val) 9#32))
    (k1_pay105 (k1_pay95 x0 d) (k1_pay96 x4) (k1_pay97 x5) k1_pay98 (Scalar.cmpi .eq (BitVec.ofNat 32 (i 0).val) 9#32))
    (k1_pay106 (k1_pay95 x0 d) (k1_pay96 x4) (k1_pay97 x5) k1_pay98 (Scalar.cmpi .eq (BitVec.ofNat 32 (i 0).val) 9#32))
    (k1_pay107 (k1_pay95 x0 d) (k1_pay96 x4) (k1_pay97 x5) k1_pay98 (Scalar.cmpi .eq (BitVec.ofNat 32 (i 0).val) 9#32))
    (k1_pay108 (k1_pay95 x0 d)) (k1_pay109 (k1_pay95 x0 d) k1_pay98) (k1_pay110 (k1_pay95 x0 d) (k1_pay96 x4))

set_option maxRecDepth 65536 in
set_option maxHeartbeats 400000 in
/-- The body on any staging memrefs: the inputs stay, the scratch ends at the dequantised tile, and each output whose
    condition holds ends at the computed tile, the others as they were. -/
theorem proj_run (c : Dev nD) (i : grid1.Coords)
  (arg2 : Memref sig .tc .vmem S512x7168 .bf16) (harg2 : arg2.IsWhole)
  (arg3 : Memref sig .tc .vmem S896x1024 .i32) (harg3 : arg3.IsWhole)
  (arg4 : Memref sig .tc .vmem S56x1024 .bf16) (harg4 : arg4.IsWhole)
  (arg5 : Memref sig .tc .vmem S56x1024 .i8) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x8x128 .bf16) (harg8 : arg8.IsWhole)
  (arg9 : Memref sig .tc .vmem S512x8x128 .bf16) (harg9 : arg9.IsWhole)
  (arg10 : Memref sig .tc .vmem S512x8x128 .bf16) (harg10 : arg10.IsWhole)
  (arg11 : Memref sig .tc .vmem S7168x1024 .bf16) (harg11 : arg11.IsWhole)
    (x0 : Vec F S512x7168 .bf16) (x1 : Vec F S896x1024 .i32) (x2 : Vec F S56x1024 .bf16) (x3 : Vec F S56x1024 .i8)
    (x4 x5 : Vec F S512x128 .f32) (y6 y7 y8 : Vec F S512x8x128 .bf16)
    (s : Vec F S7168x1024 .bf16) (hs : ¬ Fills i → s = deqTile x1 x2 x3) (E : Set ℕ) (K : PUnit → sProp 𝕄) :
    iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare x4 ∗ owns (c : Thread nD τ) arg7 fullShare x5
      ∗ owns (c : Thread nD τ) arg8 fullShare y6 ∗ owns (c : Thread nD τ) arg9 fullShare y7
      ∗ owns (c : Thread nD τ) arg10 fullShare y8 ∗ owns (c : Thread nD τ) arg11 fullShare s
      ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare x5
          ∗ owns (c : Thread nD τ) arg8 fullShare (if k1_cond2 i = 1#1 then tileOut i x0 (deqTile x1 x2 x3) x4 x5 else y6)
          ∗ owns (c : Thread nD τ) arg9 fullShare (if k1_cond3 i = 1#1 then tileOut i x0 (deqTile x1 x2 x3) x4 x5 else y7)
          ∗ owns (c : Thread nD τ) arg10 fullShare (if k1_cond4 i = 1#1 then tileOut i x0 (deqTile x1 x2 x3) x4 x5 else y8)
          ∗ owns (c : Thread nD τ) arg11 fullShare (deqTile x1 x2 x3))
        -∗ K ⟨⟩))
    ⊢ wp frame (wpE (defs₀ (F := F)) 𝒱₀ c none) E (cc1_proj i arg2 harg2 arg3 harg3 arg4 harg4 arg5 harg5 arg6 harg6 arg7 harg7 arg8 harg8 arg9 harg9 arg10 harg10 arg11 harg11) K := by
  simp only [cc1_proj_eq_skeleton]; unfold cc1_proj_skel
  rw [wp_bind]
  iintro ⟨H0, H1, H2, H3, H4, H5, H6, H7, H8, H9, Hk⟩
  iapply (part33_run 𝒱₀ c i arg2 harg2 arg3 harg3 arg4 harg4 arg5 harg5 arg6 harg6 arg7 harg7 arg8 harg8 arg9 harg9 arg10 harg10 arg11 harg11 x0 x1 x2 x3 x4 x5 s hs E _)
  isplitl [H0]; · iexact H0
  isplitl [H1]; · iexact H1
  isplitl [H2]; · iexact H2
  isplitl [H3]; · iexact H3
  isplitl [H4]; · iexact H4
  isplitl [H5]; · iexact H5
  isplitl [H9]; · iexact H9
  iintro ⟨H0, H1, H2, H3, H4, H5, H9⟩
  simp only [k1_part34_eq_skeleton]; unfold k1_part34_skel
  unfold owns
  icases H6 with ⟨%f6, %hf6, H6⟩
  icases H7 with ⟨%f7, %hf7, H7⟩
  icases H8 with ⟨%f8, %hf8, H8⟩
  by_cases hc2 : k1_cond2 i = 1#1 <;> by_cases hc3 : k1_cond3 i = 1#1 <;> by_cases hc4 : k1_cond4 i = 1#1
  all_goals
    simp only [hc2, hc3, hc4, if_true, if_false]
    sl_exec (disch := first | sl_exact hc2 | sl_exact hc3 | sl_exact hc4)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]
    · iexists _; isplitr
      swap; · iexact H6
      ipureintro; first | (dsimp only; unfold tileOut; exact View.read_writes_full _ _ _ _ _) | exact hf6
    isplitl [H7]
    · iexists _; isplitr
      swap; · iexact H7
      ipureintro; first | (dsimp only; unfold tileOut; exact View.read_writes_full _ _ _ _ _) | exact hf7
    isplitl [H8]
    · iexists _; isplitr
      swap; · iexact H8
      ipureintro; first | (dsimp only; unfold tileOut; exact View.read_writes_full _ _ _ _ _) | exact hf8
    iexact H9

end Cert.KernelIdeal.Own
end
-- ==== Proof.Ideal.ProjData.lean ====
/-
  The second call's data: what each window holds at each grid point, and what the weight scratch carries from one point to the next.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Proj
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

variable (V : (c : Dev nD) → (b : Ref sig .tc) → Buf (Elt F) ((c : Thread nD τ).loc b)) (D : Dev nD → CellTallies nD τ sig Ix)

/-! # The projection's proof data

Point `t` of the grid is column tile `t / 16`, row tile `t % 16`. The scratch is filled at the first row tile of each
column tile and read at the fifteen that follow; the query output is stored for column tiles 0 … 7, the keys' at 8, the
values' at 9. The last query block stays staged through column tiles 8 and 9 and the last key block through 9, so what
the staging buffers of those two outputs hold stops changing at points 127 and 143. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The dequantised weight tile of a point's column tile. -/
def wTile (c : Dev nD) (t : Fin cfg1.N) : Vec F S7168x1024 .bf16 :=
  deqTile (iblk1 V c 1 t) (iblk1 V c 2 t) (iblk1 V c 3 t)

/-- The tile the body computes at a point. -/
def tileAt (c : Dev nD) (t : Fin cfg1.N) : Vec F S512x8x128 .bf16 :=
  tileOut (grid1.coords t) (iblk1 V c 0 t) (wTile V c t) (iblk1 V c 4 t) (iblk1 V c 5 t)

/-- A point no later than `k`. -/
def upTo (k : ℕ) (hk : k < 160) (t : Fin cfg1.N) : Fin cfg1.N := ⟨min t.val k, lt_of_le_of_lt (min_le_right _ _) hk⟩

/-- The buffers the region leaves alone. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant before point `n`: the buffers left alone, the scratch (at a point that does not refill it,
    the tile of that point's column tile), the generator register. -/
def Φ1 (c : Dev nD) (n : Fin (cfg1.N + 1)) : sProp 𝕄 :=
  iprop(others (F := F) c
    ∗ (∃ d : Vec F S7168x1024 .bf16, ⌜∀ h : n.val < cfg1.N, n.val % 16 ≠ 0 → d = wTile V c ⟨n.val, h⟩⌝
        ∗ owns (c : Thread nD τ) (Memref.whole cc1_scratch0) fullShare d)
    ∗ ∃ r, prngReg c r)

/-- The proof data of the projection's pipeline on core `c`. -/
def dat1 (c : Dev nD) : Dat τ (Elt F) Ix ℕ U Lvl cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => tileAt V c (upTo 127 (by decide) t)
    | ⟨7, _⟩ => tileAt V c (upTo 143 (by decide) t)
    | ⟨8, _⟩ => tileAt V c t
  Φ n := Φ1 V c n
  q _ := fullShare
  owed _ := D c

variable (ι : Ix)

theorem before1_0 (c : Dev nD) (t : Fin cfg1.N) (d) : ((dat1 (Ix := Ix) (U := U) (Lvl := Lvl) V D) c).before 0 t d = iblk1 V c 0 t :=
  (Dat.before_in_eq_fetched ((dat1 (Ix := Ix) (U := U) (Lvl := Lvl) V D) c) 0 rfl (fun _ => rfl) (fun _ _ _ => rfl) (fun _ => rfl) t d).trans rfl
theorem before1_1 (c : Dev nD) (t : Fin cfg1.N) (d) : ((dat1 (Ix := Ix) (U := U) (Lvl := Lvl) V D) c).before 1 t d = iblk1 V c 1 t :=
  (Dat.before_in_eq_fetched ((dat1 (Ix := Ix) (U := U) (Lvl := Lvl) V D) c) 1 rfl (fun _ => rfl) (fun _ _ _ => rfl) (fun _ => rfl) t d).trans rfl
theorem before1_2 (c : Dev nD) (t : Fin cfg1.N) (d) : ((dat1 (Ix := Ix) (U := U) (Lvl := Lvl) V D) c).before 2 t d = iblk1 V c 2 t :=
  (Dat.before_in_eq_fetched ((dat1 (Ix := Ix) (U := U) (Lvl := Lvl) V D) c) 2 rfl (fun _ => rfl) (fun _ _ _ => rfl) (fun _ => rfl) t d).trans rfl
theorem before1_3 (c : Dev nD) (t : Fin cfg1.N) (d) : ((dat1 (Ix := Ix) (U := U) (Lvl := Lvl) V D) c).before 3 t d = iblk1 V c 3 t :=
  (Dat.before_in_eq_fetched ((dat1 (Ix := Ix) (U := U) (Lvl := Lvl) V D) c) 3 rfl (fun _ => rfl) (fun _ _ _ => rfl) (fun _ => rfl) t d).trans rfl
theorem before1_4 (c : Dev nD) (t : Fin cfg1.N) (d) : ((dat1 (Ix := Ix) (U := U) (Lvl := Lvl) V D) c).before 4 t d = iblk1 V c 4 t :=
  (Dat.before_in_eq_fetched ((dat1 (Ix := Ix) (U := U) (Lvl := Lvl) V D) c) 4 rfl (fun _ => rfl) (fun _ _ _ => rfl) (fun _ => rfl) t d).trans rfl
theorem before1_5 (c : Dev nD) (t : Fin cfg1.N) (d) : ((dat1 (Ix := Ix) (U := U) (Lvl := Lvl) V D) c).before 5 t d = iblk1 V c 5 t :=
  (Dat.before_in_eq_fetched ((dat1 (Ix := Ix) (U := U) (Lvl := Lvl) V D) c) 5 rfl (fun _ => rfl) (fun _ _ _ => rfl) (fun _ => rfl) t d).trans rfl

/-! ## When the outputs' staging buffers are written and written back -/

theorem live6 : ∀ t : Fin cfg1.N, k1_cond2 (grid1.coords t) = 1#1 ↔ t.val < 128 := by decide +kernel
theorem live7 : ∀ t : Fin cfg1.N, k1_cond3 (grid1.coords t) = 1#1 ↔ (128 ≤ t.val ∧ t.val < 144) := by decide +kernel
theorem live8 : ∀ t : Fin cfg1.N, k1_cond4 (grid1.coords t) = 1#1 ↔ 144 ≤ t.val := by decide +kernel
theorem fills_of : ∀ t : Fin cfg1.N, t.val % 16 = 0 → Fills (grid1.coords t) := by unfold Fills; decide +kernel

/-- Whether a query staging buffer holds nothing of ours before point `n`. -/
def fresh6 (n : ℕ) : Bool := decide (n < 128) || decide (160 ≤ n)
def fresh7 (n : ℕ) : Bool := decide (n < 144) || decide (160 ≤ n)
theorem fresh6_eq : ∀ n, n ≤ cfg1.N → cfg1.fresh 6 n = fresh6 n :=
  Pipeline.Cfg.fresh_tab cfg1 6 fresh6 rfl (by decide +kernel)
theorem fresh7_eq : ∀ n, n ≤ cfg1.N → cfg1.fresh 7 n = fresh7 n :=
  Pipeline.Cfg.fresh_tab cfg1 7 fresh7 rfl (by decide +kernel)
theorem fresh8_eq : ∀ n, n ≤ cfg1.N → cfg1.fresh 8 n = true :=
  Pipeline.Cfg.fresh_tab cfg1 8 (fun _ => true) rfl (by decide +kernel)
theorem flush6_idle : ∀ t : Fin cfg1.N, ¬ t.val < 128 → (cfg1.win 6).flush t = true → t.val = 159 := by decide +kernel
theorem flush7_idle : ∀ t : Fin cfg1.N, ¬ (128 ≤ t.val ∧ t.val < 144) → (cfg1.win 7).flush t = true → t.val = 159 := by decide +kernel
theorem flush8_idle : ∀ t : Fin cfg1.N, ¬ 144 ≤ t.val → (cfg1.win 8).flush t = false := by decide +kernel

end Cert.KernelIdeal.Own
end
-- ==== Proof.Ideal.ProjBody.lean ====
/-
  The body of the second call meets its data at every grid point.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.ProjData
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

variable (V : (c : Dev nD) → (b : Ref sig .tc) → Buf (Elt F) ((c : Thread nD τ).loc b)) (D : Dev nD → CellTallies nD τ sig Ix) (ι : Ix)

/-! # The projection's body obligation -/

/-- What the pipeline asks of an output's staging buffer after the body at point `t`. -/
def outPost (c : Dev nD) (w : Fin cfg1.W) (t : Fin cfg1.N) : sProp 𝕄 :=
  match cfg1.idle w (cfg1.grid.coords t) with
  | true =>
    match (cfg1.win w).flush t with
    | false => iprop(∃ d, owns (c : Thread nD τ) ((cfg1.win w).stage (cfg1.slots t w)) fullShare (((dat1 (Ix := Ix) (U := U) (Lvl := Lvl) V D) c).before w t d))
    | true => owns (c : Thread nD τ) ((cfg1.win w).stage (cfg1.slots t w)) fullShare (((dat1 (Ix := Ix) (U := U) (Lvl := Lvl) V D) c).after w t)
  | false => owns (c : Thread nD τ) ((cfg1.win w).stage (cfg1.slots t w)) fullShare (((dat1 (Ix := Ix) (U := U) (Lvl := Lvl) V D) c).after w t)

abbrev ms1_0 (t : Fin cfg1.N) : Memref sig .tc .vmem S512x7168 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S896x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S56x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S56x1024 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x8x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x8x128 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x8x128 .bf16 := win1_8.stage (cfg1.slots t 8)
abbrev hs1_8 (t : Fin cfg1.N) : (ms1_8 t).IsWhole := hstage1_8 ((cfg1.slots t 8).cast nbuf1_8)

theorem before6_last (c : Dev nD) (t : Fin cfg1.N) (ht : t.val = 159) (d) : ((dat1 (Ix := Ix) (U := U) (Lvl := Lvl) V D) c).before 6 t d = ((dat1 (Ix := Ix) (U := U) (Lvl := Lvl) V D) c).after 6 t := by
  have hcarry : ∀ (t : Fin cfg1.N) (_ : t.val ≠ 0), cfg1.idle 6 (cfg1.grid.coords t) = true → cfg1.fresh 6 t.val = false →
      ((dat1 (Ix := Ix) (U := U) (Lvl := Lvl) V D) c).after 6 t = ((dat1 (Ix := Ix) (U := U) (Lvl := Lvl) V D) c).after 6 ⟨t.val - 1, by omega⟩ := by
    intro t h0 _ hf
    rw [fresh6_eq t.val t.isLt.le] at hf
    have hk : 127 < t.val := by
      simp only [fresh6, Bool.or_eq_false_iff, decide_eq_false_iff_not] at hf
      omega
    exact congrArg (tileAt V c) (Fin.ext (show min t.val 127 = min (t.val - 1) 127 by omega))
  rw [((dat1 (Ix := Ix) (U := U) (Lvl := Lvl) V D) c).before_out_traj 6 rfl (fun _ _ => rfl) hcarry t.val t rfl d, fresh6_eq t.val t.isLt.le,
    show fresh6 t.val = false by rw [ht]; decide, if_neg Bool.false_ne_true]
  exact congrArg (tileAt V c) (Fin.ext (show min (t.val - 1) 127 = min t.val 127 by omega))

/-- What the run leaves in output 6's buffer is what the pipeline asks for. -/
theorem hand6 (c : Dev nD) (t : Fin cfg1.N) (d) :
    (owns (c : Thread nD τ) (ms1_6 t) fullShare (if k1_cond2 (grid1.coords t) = 1#1 then tileAt V c t else ((dat1 (Ix := Ix) (U := U) (Lvl := Lvl) V D) c).before 6 t d) : sProp 𝕄)
      ⊢ outPost V D c 6 t := by
  unfold outPost
  by_cases hc : t.val < 128
  · have h1 : k1_cond2 (grid1.coords t) = 1#1 := (live6 t).2 hc
    have hi : cfg1.idle 6 (cfg1.grid.coords t) = false := by
      show (!(k1_cond2 (grid1.coords t) == 1#1)) = false
      rw [h1]; rfl
    rw [hi, if_pos h1]
    have ha : ((dat1 (Ix := Ix) (U := U) (Lvl := Lvl) V D) c).after 6 t = tileAt V c t := by exact (congrArg (tileAt V c) (Fin.ext (show min t.val 127 = t.val by omega)))
    rw [ha]
  · have h1 : ¬ k1_cond2 (grid1.coords t) = 1#1 := fun h => hc ((live6 t).1 h)
    have hi : cfg1.idle 6 (cfg1.grid.coords t) = true := by
      show (!(k1_cond2 (grid1.coords t) == 1#1)) = true
      rw [beq_false_of_ne h1]; rfl
    rw [hi, if_neg h1]
    cases hf : (cfg1.win 6).flush t
    · iintro H; iexists d; iexact H
    · rw [before6_last V D c t (flush6_idle t hc hf) d]
theorem before7_last (c : Dev nD) (t : Fin cfg1.N) (ht : t.val = 159) (d) : ((dat1 (Ix := Ix) (U := U) (Lvl := Lvl) V D) c).before 7 t d = ((dat1 (Ix := Ix) (U := U) (Lvl := Lvl) V D) c).after 7 t := by
  have hcarry : ∀ (t : Fin cfg1.N) (_ : t.val ≠ 0), cfg1.idle 7 (cfg1.grid.coords t) = true → cfg1.fresh 7 t.val = false →
      ((dat1 (Ix := Ix) (U := U) (Lvl := Lvl) V D) c).after 7 t = ((dat1 (Ix := Ix) (U := U) (Lvl := Lvl) V D) c).after 7 ⟨t.val - 1, by omega⟩ := by
    intro t h0 _ hf
    rw [fresh7_eq t.val t.isLt.le] at hf
    have hk : 143 < t.val := by
      simp only [fresh7, Bool.or_eq_false_iff, decide_eq_false_iff_not] at hf
      omega
    exact congrArg (tileAt V c) (Fin.ext (show min t.val 143 = min (t.val - 1) 143 by omega))
  rw [((dat1 (Ix := Ix) (U := U) (Lvl := Lvl) V D) c).before_out_traj 7 rfl (fun _ _ => rfl) hcarry t.val t rfl d, fresh7_eq t.val t.isLt.le,
    show fresh7 t.val = false by rw [ht]; decide, if_neg Bool.false_ne_true]
  exact congrArg (tileAt V c) (Fin.ext (show min (t.val - 1) 143 = min t.val 143 by omega))

/-- What the run leaves in output 7's buffer is what the pipeline asks for. -/
theorem hand7 (c : Dev nD) (t : Fin cfg1.N) (d) :
    (owns (c : Thread nD τ) (ms1_7 t) fullShare (if k1_cond3 (grid1.coords t) = 1#1 then tileAt V c t else ((dat1 (Ix := Ix) (U := U) (Lvl := Lvl) V D) c).before 7 t d) : sProp 𝕄)
      ⊢ outPost V D c 7 t := by
  unfold outPost
  by_cases hc : (128 ≤ t.val ∧ t.val < 144)
  · have h1 : k1_cond3 (grid1.coords t) = 1#1 := (live7 t).2 hc
    have hi : cfg1.idle 7 (cfg1.grid.coords t) = false := by
      show (!(k1_cond3 (grid1.coords t) == 1#1)) = false
      rw [h1]; rfl
    rw [hi, if_pos h1]
    have ha : ((dat1 (Ix := Ix) (U := U) (Lvl := Lvl) V D) c).after 7 t = tileAt V c t := by exact (congrArg (tileAt V c) (Fin.ext (show min t.val 143 = t.val by omega)))
    rw [ha]
  · have h1 : ¬ k1_cond3 (grid1.coords t) = 1#1 := fun h => hc ((live7 t).1 h)
    have hi : cfg1.idle 7 (cfg1.grid.coords t) = true := by
      show (!(k1_cond3 (grid1.coords t) == 1#1)) = true
      rw [beq_false_of_ne h1]; rfl
    rw [hi, if_neg h1]
    cases hf : (cfg1.win 7).flush t
    · iintro H; iexists d; iexact H
    · rw [before7_last V D c t (flush7_idle t hc hf) d]

/-- What the run leaves in output 8's buffer is what the pipeline asks for. -/
theorem hand8 (c : Dev nD) (t : Fin cfg1.N) (d) :
    (owns (c : Thread nD τ) (ms1_8 t) fullShare (if k1_cond4 (grid1.coords t) = 1#1 then tileAt V c t else ((dat1 (Ix := Ix) (U := U) (Lvl := Lvl) V D) c).before 8 t d) : sProp 𝕄)
      ⊢ outPost V D c 8 t := by
  unfold outPost
  by_cases hc : 144 ≤ t.val
  · have h1 : k1_cond4 (grid1.coords t) = 1#1 := (live8 t).2 hc
    have hi : cfg1.idle 8 (cfg1.grid.coords t) = false := by
      show (!(k1_cond4 (grid1.coords t) == 1#1)) = false
      rw [h1]; rfl
    rw [hi, if_pos h1]
    have ha : ((dat1 (Ix := Ix) (U := U) (Lvl := Lvl) V D) c).after 8 t = tileAt V c t := by rfl
    rw [ha]
  · have h1 : ¬ k1_cond4 (grid1.coords t) = 1#1 := fun h => hc ((live8 t).1 h)
    have hi : cfg1.idle 8 (cfg1.grid.coords t) = true := by
      show (!(k1_cond4 (grid1.coords t) == 1#1)) = true
      rw [beq_false_of_ne h1]; rfl
    rw [hi, if_neg h1]
    cases hf : (cfg1.win 8).flush t
    · iintro H; iexists d; iexact H
    · rw [flush8_idle t hc] at hf; exact absurd hf Bool.false_ne_true

theorem index_prev1 : ∀ t : Fin cfg1.N, t.val % 16 ≠ 0 →
    (cfg1.win 1).index t = (cfg1.win 1).index ⟨t.val - 1, lt_of_le_of_lt (Nat.sub_le _ _) t.isLt⟩ := by decide +kernel
theorem index_prev2 : ∀ t : Fin cfg1.N, t.val % 16 ≠ 0 →
    (cfg1.win 2).index t = (cfg1.win 2).index ⟨t.val - 1, lt_of_le_of_lt (Nat.sub_le _ _) t.isLt⟩ := by decide +kernel
theorem index_prev3 : ∀ t : Fin cfg1.N, t.val % 16 ≠ 0 →
    (cfg1.win 3).index t = (cfg1.win 3).index ⟨t.val - 1, lt_of_le_of_lt (Nat.sub_le _ _) t.isLt⟩ := by decide +kernel

/-- Two points of one column tile have the same weight tile (`dat` is any proof data over these arrays). -/
theorem wTile_succ {c : Dev nD} (dat : Dat τ (Elt F) Ix ℕ U Lvl cfg1 c) (hA : ∀ w, dat.A w = V c (Pipeline.arrRef spec1 w))
    (t t' : Fin cfg1.N) (h : t'.val = t.val + 1) (hm : t'.val % 16 ≠ 0) : wTile V c t' = wTile V c t := by
  have e : ⟨t'.val - 1, lt_of_le_of_lt (Nat.sub_le _ _) t'.isLt⟩ = t := Fin.ext (by show t'.val - 1 = t.val; omega)
  have f1 : ∀ s d, dat.fetched 1 s d = iblk1 V c 1 s := fun s d => by
    unfold Dat.fetched Dat.blockOf iblk1; rw [hA]; try rfl
  have h1 : iblk1 V c 1 t' = iblk1 V c 1 t :=
    (f1 t' (iblk1 V c 1 t)).symm.trans ((dat.fetched_congr 1 ((index_prev1 t' hm).trans (congrArg _ e)) rfl _).trans (f1 t (iblk1 V c 1 t)))
  have f2 : ∀ s d, dat.fetched 2 s d = iblk1 V c 2 s := fun s d => by
    unfold Dat.fetched Dat.blockOf iblk1; rw [hA]; try rfl
  have h2 : iblk1 V c 2 t' = iblk1 V c 2 t :=
    (f2 t' (iblk1 V c 2 t)).symm.trans ((dat.fetched_congr 2 ((index_prev2 t' hm).trans (congrArg _ e)) rfl _).trans (f2 t (iblk1 V c 2 t)))
  have f3 : ∀ s d, dat.fetched 3 s d = iblk1 V c 3 s := fun s d => by
    unfold Dat.fetched Dat.blockOf iblk1; rw [hA]; try rfl
  have h3 : iblk1 V c 3 t' = iblk1 V c 3 t :=
    (f3 t' (iblk1 V c 3 t)).symm.trans ((dat.fetched_congr 3 ((index_prev3 t' hm).trans (congrArg _ e)) rfl _).trans (f3 t (iblk1 V c 3 t)))
  unfold wTile
  exact congr (congrArg₂ deqTile h1 h2) h3

/-- What the body is called with at point `t`, and what it returns. -/
def bodyPre1 (c : Dev nD) (t : Fin cfg1.N) : sProp 𝕄 :=
  iprop(((dat1 (Ix := Ix) (U := U) (Lvl := Lvl) V D) c).Φ t.castSucc ∗ ((dat1 (Ix := Ix) (U := U) (Lvl := Lvl) V D) c).owesAt ι t.castSucc
    ∗ (∃ d, owns (c : Thread nD τ) (ms1_0 t) fullShare (((dat1 (Ix := Ix) (U := U) (Lvl := Lvl) V D) c).before 0 t d))
    ∗ (∃ d, owns (c : Thread nD τ) (ms1_1 t) fullShare (((dat1 (Ix := Ix) (U := U) (Lvl := Lvl) V D) c).before 1 t d))
    ∗ (∃ d, owns (c : Thread nD τ) (ms1_2 t) fullShare (((dat1 (Ix := Ix) (U := U) (Lvl := Lvl) V D) c).before 2 t d))
    ∗ (∃ d, owns (c : Thread nD τ) (ms1_3 t) fullShare (((dat1 (Ix := Ix) (U := U) (Lvl := Lvl) V D) c).before 3 t d))
    ∗ (∃ d, owns (c : Thread nD τ) (ms1_4 t) fullShare (((dat1 (Ix := Ix) (U := U) (Lvl := Lvl) V D) c).before 4 t d))
    ∗ (∃ d, owns (c : Thread nD τ) (ms1_5 t) fullShare (((dat1 (Ix := Ix) (U := U) (Lvl := Lvl) V D) c).before 5 t d))
    ∗ (∃ d, owns (c : Thread nD τ) (ms1_6 t) fullShare (((dat1 (Ix := Ix) (U := U) (Lvl := Lvl) V D) c).before 6 t d))
    ∗ (∃ d, owns (c : Thread nD τ) (ms1_7 t) fullShare (((dat1 (Ix := Ix) (U := U) (Lvl := Lvl) V D) c).before 7 t d))
    ∗ (∃ d, owns (c : Thread nD τ) (ms1_8 t) fullShare (((dat1 (Ix := Ix) (U := U) (Lvl := Lvl) V D) c).before 8 t d)))

def bodyPost1 (c : Dev nD) (t : Fin cfg1.N) : sProp 𝕄 :=
  iprop(((dat1 (Ix := Ix) (U := U) (Lvl := Lvl) V D) c).Φ t.succ ∗ ((dat1 (Ix := Ix) (U := U) (Lvl := Lvl) V D) c).owesAt ι t.succ
    ∗ owns (c : Thread nD τ) (ms1_0 t) fullShare (iblk1 V c 0 t)
    ∗ owns (c : Thread nD τ) (ms1_1 t) fullShare (iblk1 V c 1 t)
    ∗ owns (c : Thread nD τ) (ms1_2 t) fullShare (iblk1 V c 2 t)
    ∗ owns (c : Thread nD τ) (ms1_3 t) fullShare (iblk1 V c 3 t)
    ∗ owns (c : Thread nD τ) (ms1_4 t) fullShare (iblk1 V c 4 t)
    ∗ owns (c : Thread nD τ) (ms1_5 t) fullShare (iblk1 V c 5 t)
    ∗ outPost V D c 6 t
    ∗ outPost V D c 7 t
    ∗ outPost V D c 8 t)

theorem proj_sound_body (c : Dev nD) (t : Fin cfg1.N) :
    bodyPre1 (U := U) (Lvl := Lvl) V D ι c t ⊢ wp frame (wpE (defs₀ (F := F)) 𝒱₀ c none) Set.univ (bodyAt1 t) (fun _ => bodyPost1 (U := U) (Lvl := Lvl) V D ι c t) := by
  unfold bodyPre1 bodyPost1 bodyAt1
  simp only [before1_0, before1_1, before1_2, before1_3, before1_4, before1_5]
  rw [show ((dat1 (Ix := Ix) (U := U) (Lvl := Lvl) V D) c).Φ t.succ = Φ1 V c t.succ from rfl, show ((dat1 (Ix := Ix) (U := U) (Lvl := Lvl) V D) c).Φ t.castSucc = Φ1 V c t.castSucc from rfl,
    show ((dat1 (Ix := Ix) (U := U) (Lvl := Lvl) V D) c).owesAt ι t.succ = ((dat1 (Ix := Ix) (U := U) (Lvl := Lvl) V D) c).owesAt ι t.castSucc from rfl]
  unfold Φ1
  iintro ⟨⟨Hr, ⟨%s, %hs, H9⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (proj_run 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (Memref.whole cc1_scratch0) (Memref.isWhole_whole _)
    (iblk1 V c 0 t) (iblk1 V c 1 t) (iblk1 V c 2 t) (iblk1 V c 3 t) (iblk1 V c 4 t) (iblk1 V c 5 t)
    (((dat1 (Ix := Ix) (U := U) (Lvl := Lvl) V D) c).before 6 t d6) (((dat1 (Ix := Ix) (U := U) (Lvl := Lvl) V D) c).before 7 t d7) (((dat1 (Ix := Ix) (U := U) (Lvl := Lvl) V D) c).before 8 t d8) s
    (fun hn => hs t.isLt (fun h0 => hn (fills_of t h0))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [Hr H9 Hp]
  · isplitl [Hr]; · iexact Hr
    isplitl [H9]
    · iexists (wTile V c t); isplitr
      · ipureintro
        exact fun h hm => (wTile_succ V ((dat1 (Ix := Ix) (U := U) (Lvl := Lvl) V D) c) (fun _ => rfl) t ⟨t.val + 1, h⟩ rfl hm).symm
      iexact H9
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (hand6 V D c t d6); iexact H6
  isplitl [H7]; · iapply (hand7 V D c t d7); iexact H7
  iapply (hand8 V D c t d8); iexact H8

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem proj_obligation (c : Dev nD) : BodyObligation ((dat1 (Ix := Ix) (U := U) (Lvl := Lvl) V D) c) (defs₀ (F := F)) 𝒱₀ ι Set.univ := fun t => by
  rw [bigSep_W1, bigSep_W1, defs₀_row1]
  exact triple_restated (proj_sound_body (U := U) (Lvl := Lvl) 𝒱₀ V D ι c t) rfl .rfl fun _ => .rfl

end Cert.KernelIdeal.Own
end
-- ==== Proof.Ideal.Run.lean ====
/-
  The whole program's run: host lines, first call, second call, host lines; its results and its unchanged arguments.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.RegionArraysS
public import Idealize.ShloMosaic.Lib.StableHlo.RunHlo
public import proofs.«01_k».proof.Proof.Gen.KernelIdeal.Regions
public import proofs.«01_k».proof.Proof.Ideal.Norm
public import proofs.«01_k».proof.Proof.Ideal.ProjBody

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program's run

The host operations before the first call, the two calls, the reshapes after them: the buffers' contents between
these items, and the run that ends with every buffer at the last of them. -/

/-- Nothing is owed at any time. -/
abbrev noDue : Dev nD → CellTallies nD τ sig Unit := fun _ => 0

/-- The one index is assigned at every counter of a TensorCore, all at one level. -/
def lvL : GSem nD τ sig → Finset Unit := fun g => if g.1.2 = .tc then {()} else ∅
abbrev lv0 : GSem nD τ sig → Unit → ℕ := fun _ _ => 0

/-- The buffers of core `c` as the first call finds them, at the TensorCore's references. -/
abbrev Ve0 (c : Dev nD) (b : Ref sig .tc) : Buf (Elt F) ((c : Thread nD τ).loc b) := V1 m c (Proc.devRef .tc b)
/-- The first call's proof data. -/
def d0 (c : Dev nD) : Dat τ (Elt F) Unit ℕ (UR sig nD τ) ℕ cfg0 c := dat0 (Ve0 m) noDue c
/-- The buffers after the first call. -/
def W2 (c : Dev nD) : Valuation τ sig (Elt F) := Pipeline.afterRegion (d0 m c) (V1 m c)
abbrev Ve1 (c : Dev nD) (b : Ref sig .tc) : Buf (Elt F) ((c : Thread nD τ).loc b) := W2 m c (Proc.devRef .tc b)
/-- The second call's proof data. -/
def d1 (c : Dev nD) : Dat τ (Elt F) Unit ℕ (UR sig nD τ) ℕ cfg1 c := dat1 (Ve1 m) noDue c
/-- The buffers after the second call. -/
def W3 (c : Dev nD) : Valuation τ sig (Elt F) := Pipeline.afterRegion (d1 m c) (W2 m c)
/-- The buffers at the end. -/
def W4 (c : Dev nD) : Valuation τ sig (Elt F) := StableHlo.after hostOps2 (W3 m c)

/-- Both calls' proof data. -/
def pd : (p : Fin 2) → (c : Dev nD) → Dat τ (Elt F) Unit ℕ (UR sig nD τ) ℕ (cfgs p) c
  | ⟨0, _⟩ => fun c => d0 m c
  | ⟨1, _⟩ => fun c => d1 m c
  | ⟨_ + 2, h⟩ => absurd h (Nat.not_lt.2 (Nat.le_add_left _ _))

theorem cut (p : Fin 2) : Pipeline.LevelCut (pcfgs (F := F)) adm () lvL lv0 p noDue (fun _ => 0) where
  hι c w s := by simp [lvL]
  hιb _ _ _ := Nat.le_refl _
  hD _ _ _ h := absurd h (Nat.lt_irrefl 0)

theorem arrRefs0_sub : Pipeline.arrRefs (τ := τ) spec0 ⊆ Pipeline.ucRefs τ sig := by decide
theorem arrRefs1_sub : Pipeline.arrRefs (τ := τ) spec1 ⊆ Pipeline.ucRefs τ sig := by decide

/-- What rides beside the buffers: the generator register, and the core owing nothing. -/
def rest (c : Dev nD) : sProp 𝕄 :=
  iprop((∃ W, owes (c : Thread nD τ) (noDue c) W) ∗ (∃ r, prngReg c r) ∗ emp)

/-- Into the second call's invariant: the scratch may hold anything. -/
theorem enter1 (c : Dev nD) :
    iprop(Pipeline.scopedRest (Ix := Unit) (Name := ℕ) (U := UR sig nD τ) (Lvl := ℕ) (Val := Elt F) spec1 c ∗ ∃ r, prngReg c r)
      ⊢ (d1 m c).Φ 0 := by
  show _ ⊢ Φ1 (Ve1 m) c 0
  unfold Φ1 others
  rw [scopedRest1_eq]
  iintro ⟨⟨B0, B1, B2, B3, B4, B5, B6, B7, B8, B9, B10, B11, ⟨%f, Hs⟩⟩, Hp⟩
  isplitl [B0 B1 B2 B3 B4 B5 B6 B7 B8 B9 B10 B11]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact B11
  isplitl [Hs]
  · iexists f
    isplitr; · ipureintro; intro _ h; exact absurd rfl h
    rw [owns_whole]
    iexact Hs
  iexact Hp

/-- Out of the second call's invariant. -/
theorem leave1 (c : Dev nD) : (d1 m c).Φ (Fin.last cfg1.N)
    ⊢ iprop(Pipeline.scopedRest (Ix := Unit) (Name := ℕ) (U := UR sig nD τ) (Lvl := ℕ) (Val := Elt F) spec1 c ∗ ∃ r, prngReg c r) := by
  show Φ1 (Ve1 m) c _ ⊢ _
  unfold Φ1 others
  rw [scopedRest1_eq]
  iintro ⟨⟨B0, B1, B2, B3, B4, B5, B6, B7, B8, B9, B10, B11⟩, ⟨%f, -, Hs⟩, Hp⟩
  isplitr [Hp]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexists f
    rw [owns_whole]
    first | iexact Hs | exact .rfl
  iexact Hp

set_option backward.isDefEq.respectTransparency.types false in
/-- The first call as a segment of the run. -/
def reg0 : RegionSeg (pcfgs (F := F)) adm (pd m) () defs₀ Variants.none lvL lv0 0 :=
  Pipeline.RegionSeg.ofHeld (pcfgs (F := F)) adm (pd m) () defs₀ Variants.none lvL lv0 0 noDue
    (fun c => iprop(∃ r, prngReg c r)) (fun c => iprop(∃ r, prngReg c r)) launch0.toP rfl
    (fun c => (norm_obligation (U := UR sig nD τ) (Lvl := ℕ) Variants.none (Ve0 m) noDue () c).loose) (fun _ _ => rfl) (fun _ => rfl)
    (fun c => (d0 m c).share_full fun _ => rfl) (fun _ => .rfl) (fun _ => .rfl) (fun _ => 0) (cut 0)
    (fun c => StableHlo.held (c : Thread nD τ) (Pipeline.ucRefs τ sig \ Pipeline.arrRefs (τ := τ) spec0) (V1 m c))
    (V1 m) (W2 m) (fun _ _ => rfl) (fun c w => (Pipeline.afterRegion_arr (d0 m c) (V1 m c) launch0.win.arr_inj w).symm)

set_option backward.isDefEq.respectTransparency.types false in
/-- The second call as a segment of the run. -/
def reg1 : RegionSeg (pcfgs (F := F)) adm (pd m) () defs₀ Variants.none lvL lv0 1 :=
  Pipeline.RegionSeg.ofHeld (pcfgs (F := F)) adm (pd m) () defs₀ Variants.none lvL lv0 1 noDue
    (fun c => iprop(∃ r, prngReg c r)) (fun c => iprop(∃ r, prngReg c r)) launch1.toP rfl
    (fun c => (proj_obligation (U := UR sig nD τ) (Lvl := ℕ) Variants.none (Ve1 m) noDue () c).loose) (fun _ _ => rfl) (fun _ => rfl)
    (fun c => (d1 m c).share_full fun _ => rfl) (fun c => enter1 m c) (fun c => leave1 m c) (fun _ => 0) (cut 1)
    (fun c => StableHlo.held (c : Thread nD τ) (Pipeline.ucRefs τ sig \ Pipeline.arrRefs (τ := τ) spec1) (W2 m c))
    (W2 m) (W3 m) (fun _ _ => rfl) (fun c w => (Pipeline.afterRegion_arr (d1 m c) (W2 m c) launch1.win.arr_inj w).symm)

/-- What the call is entered with, and what it leaves. -/
theorem reg0_pre (c : Dev nD) : iprop(StableHlo.held (c : Thread nD τ) (Pipeline.ucRefs τ sig) (V1 m c) ∗ rest c) ⊢ (reg0 m).pre c := by
  show _ ⊢ iprop(StableHlo.held (c : Thread nD τ) (Pipeline.arrRefs (τ := τ) spec0) (V1 m c) ∗ (∃ r, prngReg c r)
    ∗ StableHlo.held (c : Thread nD τ) (Pipeline.ucRefs τ sig \ Pipeline.arrRefs (τ := τ) spec0) (V1 m c) ∗ ∃ W, owes (c : Thread nD τ) (noDue c) W)
  unfold rest
  rw [StableHlo.held_sub_split (c : Thread nD τ) arrRefs0_sub (V1 m c)]
  iintro ⟨⟨Ha, Hr⟩, HO, Hp, -⟩
  isplitl [Ha]; · iexact Ha
  isplitl [Hp]; · iexact Hp
  isplitl [Hr]; · iexact Hr
  iexact HO

theorem reg0_post (c : Dev nD) : (reg0 m).post c ⊢ iprop(StableHlo.held (c : Thread nD τ) (Pipeline.ucRefs τ sig) (W2 m c) ∗ rest c) := by
  show iprop(StableHlo.held (c : Thread nD τ) (Pipeline.arrRefs (τ := τ) spec0) (W2 m c) ∗ (∃ r, prngReg c r)
    ∗ StableHlo.held (c : Thread nD τ) (Pipeline.ucRefs τ sig \ Pipeline.arrRefs (τ := τ) spec0) (V1 m c) ∗ ∃ W, owes (c : Thread nD τ) (noDue c) W) ⊢ _
  unfold rest
  rw [StableHlo.held_sub_split (c : Thread nD τ) arrRefs0_sub (W2 m c),
    StableHlo.held_congr (c : Thread nD τ) (S := Pipeline.ucRefs τ sig \ Pipeline.arrRefs (τ := τ) spec0) (V := W2 m c) (V' := V1 m c)
      (Pipeline.afterRegion_off (d0 m c) (V1 m c) (Pipeline.ucRefs τ sig))]
  iintro ⟨Ha, Hp, Hr, HO⟩
  isplitl [Ha Hr]; · isplitl [Ha] <;> iassumption
  isplitl [HO]; · iexact HO
  isplitl [Hp]; · iexact Hp
  iempintro

/-- What the call is entered with, and what it leaves. -/
theorem reg1_pre (c : Dev nD) : iprop(StableHlo.held (c : Thread nD τ) (Pipeline.ucRefs τ sig) (W2 m c) ∗ rest c) ⊢ (reg1 m).pre c := by
  show _ ⊢ iprop(StableHlo.held (c : Thread nD τ) (Pipeline.arrRefs (τ := τ) spec1) (W2 m c) ∗ (∃ r, prngReg c r)
    ∗ StableHlo.held (c : Thread nD τ) (Pipeline.ucRefs τ sig \ Pipeline.arrRefs (τ := τ) spec1) (W2 m c) ∗ ∃ W, owes (c : Thread nD τ) (noDue c) W)
  unfold rest
  rw [StableHlo.held_sub_split (c : Thread nD τ) arrRefs1_sub (W2 m c)]
  iintro ⟨⟨Ha, Hr⟩, HO, Hp, -⟩
  isplitl [Ha]; · iexact Ha
  isplitl [Hp]; · iexact Hp
  isplitl [Hr]; · iexact Hr
  iexact HO

theorem reg1_post (c : Dev nD) : (reg1 m).post c ⊢ iprop(StableHlo.held (c : Thread nD τ) (Pipeline.ucRefs τ sig) (W3 m c) ∗ rest c) := by
  show iprop(StableHlo.held (c : Thread nD τ) (Pipeline.arrRefs (τ := τ) spec1) (W3 m c) ∗ (∃ r, prngReg c r)
    ∗ StableHlo.held (c : Thread nD τ) (Pipeline.ucRefs τ sig \ Pipeline.arrRefs (τ := τ) spec1) (W2 m c) ∗ ∃ W, owes (c : Thread nD τ) (noDue c) W) ⊢ _
  unfold rest
  rw [StableHlo.held_sub_split (c : Thread nD τ) arrRefs1_sub (W3 m c),
    StableHlo.held_congr (c : Thread nD τ) (S := Pipeline.ucRefs τ sig \ Pipeline.arrRefs (τ := τ) spec1) (V := W3 m c) (V' := W2 m c)
      (Pipeline.afterRegion_off (d1 m c) (W2 m c) (Pipeline.ucRefs τ sig))]
  iintro ⟨Ha, Hp, Hr, HO⟩
  isplitl [Ha Hr]; · isplitl [Ha] <;> iassumption
  isplitl [HO]; · iexact HO
  isplitl [Hp]; · iexact Hp
  iempintro

/-- The reshapes after the calls, as a segment. -/
def seg2 : HostSeg (Ix := Unit) (Name := ℕ) (U := UR sig nD τ) (Lvl := ℕ) (pcfgs (F := F)) defs₀ Variants.none lvL lv0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rest

/-- @main as its four segments. -/
abbrev mainSegs : List (Seg (pcfgs (F := F)) adm (pd m) () defs₀ Variants.none lvL lv0) :=
  [.host (Gen.seg0 m Variants.none lvL lv0 (fun _ => rest)), .region (reg0 m), .region (reg1 m), .host (seg2 m)]

set_option backward.isDefEq.respectTransparency.types false in
/-- Every run ends, with every unscoped buffer at `W4` and every counter at zero. -/
theorem run_all : θ_run defs (onTc (τ := τ) (main (F := F))) ⟨m, fun _ => 0, ρ⟩ (fun r =>
    (∀ c : Dev nD, ∀ b ∈ Pipeline.ucRefs τ sig, r.2.mem (c, b) = W4 m c b) ∧ r.2.sem = fun _ => 0) := by
  refine Pipeline.θ_run_regions_kit_dev_sems (pcfgs (F := F)) adm (pd m) () cellOf_inj emb₁ defs₀ Variants.none lvL lv0 m ρ main
    (fun _ => mainSegs m)
    (fun c Q => by
      rewrite [main_chain c, Seg.run_eq_chain,
        show (mainSegs m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [mainSegs, Seg.pipes_host, Seg.pipes_region, Seg.pipes_nil]; decide) (O₀ := 0)
    (hL := fun g h => if_neg h) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ rest c))
    (Tₙ := fun c => StableHlo.held (c : Thread nD τ) (Pipeline.ucRefs τ sig) (W4 m c))
    (hch := fun c => ⟨.rfl, reg0_pre m c, (reg0_post m c).trans (reg1_pre m c), reg1_post m c, ?_⟩)
    (hinit := ?_) (QY := fun c s => ∀ b ∈ Pipeline.ucRefs τ sig, s.mem (c, b) = W4 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (W4 m c) ∗ rest c) ⊢ _
    unfold rest
    iintro ⟨Hh, HO, -, -⟩
    isplitl [Hh] <;> iassumption
  · refine Pipeline.initEach lvL lv0 fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    unfold rest
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (W4 m c) s') $$ [Hh HSI]
    · isplitl [Hh] <;> iassumption
    imodintro; iexact Hr

/-! ## Reading the last contents -/

theorem W2_of (c : Dev nD) (r : Ref sig .tc) (h : ∀ w, Pipeline.arrRef spec0 w = r → (cfg0.win w).isOut = false) :
    W2 m c r = V1 m c r :=
  Pipeline.afterRegion_keeps (d0 m c) (V1 m c) launch0.win.arr_inj (fun _ => rfl) r h

theorem W3_of (c : Dev nD) (r : Ref sig .tc) (h : ∀ w, Pipeline.arrRef spec1 w = r → (cfg1.win w).isOut = false) :
    W3 m c r = W2 m c r :=
  Pipeline.afterRegion_keeps (d1 m c) (W2 m c) launch1.win.arr_inj (fun _ => rfl) r h

theorem W4_of (c : Dev nD) (r : Ref sig .tc) (h : r ∉ hostOps2_W) : W4 m c r = W3 m c r :=
  StableHlo.after_of_writes_sub hostOps2 _ hostOps2_writes h

/-- A reference written by no item ends as launched. -/
theorem W4_launch (c : Dev nD) (r : Ref sig .tc) (h1 : r ∉ hostOps0_W) (h4 : r ∉ hostOps2_W)
    (h2 : ∀ w, Pipeline.arrRef spec0 w = r → (cfg0.win w).isOut = false)
    (h3 : ∀ w, Pipeline.arrRef spec1 w = r → (cfg1.win w).isOut = false) : W4 m c r = m ((c : Thread nD τ).loc r) :=
  (W4_of m c r h4).trans <| (W3_of m c r h3).trans <| (W2_of m c r h2).trans <| V1_of m c r h1

theorem mem_uc (r : Ref sig .tc) (h : (Proc.devRef (τ := τ) .tc r).isScoped = false) : Proc.devRef .tc r ∈ Pipeline.ucRefs τ sig :=
  Finset.mem_filter.mpr ⟨StableHlo.devRef_mem_tcRefs r, by simp [h]⟩

/-- Every run ends with the arguments as launched, the three results at `W4`, and every counter at zero. -/
theorem run_values : θ_run defs (onTc (τ := τ) (main (F := F))) ⟨m, fun _ => 0, ρ⟩ (fun r => (∀ c : Dev nD,
      r.2.mem ((c.tc : Thread nD τ).loc main_v16) = W4 m c main_v16
      ∧ r.2.mem ((c.tc : Thread nD τ).loc main_v17) = W4 m c main_v17
      ∧ r.2.mem ((c.tc : Thread nD τ).loc main_v18) = W4 m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run_mono (run_all m ρ)) fun r h => ⟨fun c =>
    ⟨h.1 c _ (mem_uc main_v16 (by decide)), h.1 c _ (mem_uc main_v17 (by decide)), h.1 c _ (mem_uc main_v18 (by decide)),
      (h.1 c _ (mem_uc main_arg0 (by decide))).trans (W4_launch m c main_arg0 (by decide) (by decide) (by decide) (by decide)),
      (h.1 c _ (mem_uc main_arg1 (by decide))).trans (W4_launch m c main_arg1 (by decide) (by decide) (by decide) (by decide)),
      (h.1 c _ (mem_uc main_arg2 (by decide))).trans (W4_launch m c main_arg2 (by decide) (by decide) (by decide) (by decide)),
      (h.1 c _ (mem_uc main_arg3 (by decide))).trans (W4_launch m c main_arg3 (by decide) (by decide) (by decide) (by decide)),
      (h.1 c _ (mem_uc main_arg4 (by decide))).trans (W4_launch m c main_arg4 (by decide) (by decide) (by decide) (by decide)),
      (h.1 c _ (mem_uc main_arg5 (by decide))).trans (W4_launch m c main_arg5 (by decide) (by decide) (by decide) (by decide))⟩, h.2⟩

end Cert.KernelIdeal.Own
end
-- ==== Proof.Ideal.Blocks.lean ====
/-
  Which part of its array each window's block is, at each point of the two grids.
-/
module

public import proofs.«01_k».proof.Proof.Ideal.Norm
public import proofs.«01_k».proof.Proof.Ideal.ProjData
public import Idealize.ShloMosaic.Lib.Pipeline.ValueKit

@[expose] public section

noncomputable section

namespace Cert.KernelIdeal.Own

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

set_option maxRecDepth 16384
set_option maxHeartbeats 400000

/-- The block indices of the normalisation's windows. -/
theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] := by
  decide +kernel

theorem iblk0_x (c : Dev nD) (t : Fin cfg0.N) (r : Fin 256) (k : Fin 7168) :
    iblk0 V c 0 t (ix2 r k) = (V c main_v11 : Vec F S8192x7168 .bf16) (ix2 ⟨t.val * 256 + r.val, by have : t.val < 32 := t.isLt; omega⟩ k) := by
  unfold iblk0; blk_ext [idx0 t]
theorem iblk0_w (c : Dev nD) (t : Fin cfg0.N) (k : Fin 7168) :
    iblk0 V c 1 t (ix2 0 k) = (V c main_v12 : Vec F S1x7168 .f32) (ix2 0 k) := by
  unfold iblk0; blk_ext [idx0 t]
theorem iblk0_p (c : Dev nD) (t : Fin cfg0.N) (r : Fin 256) :
    iblk0 V c 2 t (ix2 r 0) = (V c main_v13 : Vec F S8192x1 .i32) (ix2 ⟨t.val * 256 + r.val, by have : t.val < 32 := t.isLt; omega⟩ 0) := by
  unfold iblk0; blk_ext [idx0 t]
theorem iblk0_f (c : Dev nD) (t : Fin cfg0.N) (l : Fin 128) :
    iblk0 V c 3 t (ix2 0 l) = (V c main_v10 : Vec F S1x128 .f32) (ix2 0 l) := by
  unfold iblk0; blk_ext [idx0 t]

/-- The block indices of the projection's windows: point `t` is column tile `t / 16`, row tile `t % 16`; a result no longer
    written to keeps the block of its last writing. -/
theorem idx1 : ∀ t : Fin cfg1.N, win1_0.index t = ![t.val % 16, 0] ∧ win1_1.index t = ![0, t.val / 16]
    ∧ win1_2.index t = ![0, t.val / 16] ∧ win1_3.index t = ![0, t.val / 16] ∧ win1_4.index t = ![t.val % 16, 0]
    ∧ win1_5.index t = ![t.val % 16, 0] ∧ win1_6.index t = ![min t.val 127 % 16, min t.val 127 / 16, 0]
    ∧ win1_7.index t = ![min t.val 143 - 128, 0, 0] ∧ win1_8.index t = ![t.val - 144, 0, 0] := by
  decide +kernel

/-- Where the keys' and the values' blocks are written back. -/
theorem flush7_live : ∀ t : Fin cfg1.N, (cfg1.win 7).flush t = true → 128 ≤ t.val := by decide +kernel
theorem flush8_live : ∀ t : Fin cfg1.N, (cfg1.win 8).flush t = true → 144 ≤ t.val := by decide +kernel

/-- The grid's column coordinate. -/
theorem coord1 : ∀ t : Fin cfg1.N, (grid1.coords t 0).val = t.val / 16 := by decide +kernel

theorem iblk1_x (c : Dev nD) (t : Fin cfg1.N) (r : Fin 512) (k : Fin 7168) :
    iblk1 V c 0 t (ix2 r k) = (V c main_v14_0 : Vec F S8192x7168 .bf16) (ix2 ⟨t.val % 16 * 512 + r.val, by omega⟩ k) := by
  unfold iblk1; blk_ext [idx1 t]
theorem iblk1_w (c : Dev nD) (t : Fin cfg1.N) (a : Fin 896) (n : Fin 1024) :
    iblk1 V c 1 t (ix2 a n) = (V c main_arg3 : Vec F S896x10240 .i32) (ix2 a ⟨t.val / 16 * 1024 + n.val, by have : t.val < 160 := t.isLt; omega⟩) := by
  unfold iblk1; blk_ext [idx1 t]
theorem iblk1_s (c : Dev nD) (t : Fin cfg1.N) (g : Fin 56) (n : Fin 1024) :
    iblk1 V c 2 t (ix2 g n) = (V c main_arg4 : Vec F S56x10240 .bf16) (ix2 g ⟨t.val / 16 * 1024 + n.val, by have : t.val < 160 := t.isLt; omega⟩) := by
  unfold iblk1; blk_ext [idx1 t]
theorem iblk1_z (c : Dev nD) (t : Fin cfg1.N) (g : Fin 56) (n : Fin 1024) :
    iblk1 V c 3 t (ix2 g n) = (V c main_arg5 : Vec F S56x10240 .i8) (ix2 g ⟨t.val / 16 * 1024 + n.val, by have : t.val < 160 := t.isLt; omega⟩) := by
  unfold iblk1; blk_ext [idx1 t]
theorem iblk1_c (c : Dev nD) (t : Fin cfg1.N) (r : Fin 512) (l : Fin 128) :
    iblk1 V c 4 t (ix2 r l) = (V c main_v14_1 : Vec F S8192x128 .f32) (ix2 ⟨t.val % 16 * 512 + r.val, by omega⟩ l) := by
  unfold iblk1; blk_ext [idx1 t]
theorem iblk1_n (c : Dev nD) (t : Fin cfg1.N) (r : Fin 512) (l : Fin 128) :
    iblk1 V c 5 t (ix2 r l) = (V c main_v14_2 : Vec F S8192x128 .f32) (ix2 ⟨t.val % 16 * 512 + r.val, by omega⟩ l) := by
  unfold iblk1; blk_ext [idx1 t]

end Cert.KernelIdeal.Own
-- ==== Proof.Closed.lean ====
/-
  The mathematics both programs compute, written once over the extended reals and free of either program's layout:
  the normalised row, one dequantised weight, the projection, the rotation angle and the rotation of one head.
-/
module

public import Idealize.ShloMosaic.Lib.Pointwise

@[expose] public section

noncomputable section

namespace Cert.Closed

open Idealize.ShloMosaic

/-- One element of a row divided by the row's root mean square and scaled. -/
def rms (x w : Fin 7168 → EReal) (k : Fin 7168) : EReal :=
  x k * Ideal.rsqrt (Ideal.div (∑ l, x l * x l) (Ideal.ofBits .f32 0x45E00000#32) + Ideal.ofBits .f32 0x358637BD#32) * w k

/-- Field `f` of a word of eight 4-bit codes, less the zero point and times the scale. -/
def dequant (w : BitVec 32) (f : ℕ) (z : BitVec 8) (s : EReal) : EReal :=
  (FloatOps.sitofp (F := Ideal) .bf16 (IntOp.andi (IntOp.shrsi .host w (BitVec.ofNat 32 (4 * f))) 15#32)
    - FloatOps.sitofp (F := Ideal) .bf16 (BitVec.setWidth 32 z)) * s

/-- The weight at row `k` and column `n`: its word is row `k / 8`, its group is `k / 128`. -/
def weight (W : Fin 896 → Fin 10240 → BitVec 32) (S : Fin 56 → Fin 10240 → EReal) (Z : Fin 56 → Fin 10240 → BitVec 8)
    (k : Fin 7168) (n : Fin 10240) : EReal :=
  dequant (W ⟨k.val / 8, by omega⟩ n) (k.val % 8) (Z ⟨k.val / 128, by omega⟩ n) (S ⟨k.val / 128, by omega⟩ n)

/-- The product of a row with column `n` of the weights. -/
def col (x : Fin 7168 → EReal) (W : Fin 896 → Fin 10240 → BitVec 32) (S : Fin 56 → Fin 10240 → EReal)
    (Z : Fin 56 → Fin 10240 → BitVec 8) (n : Fin 10240) : EReal :=
  ∑ k, x k * weight W S Z k n

/-- The rotary frequency of pair `i` of lanes. -/
def freq (i : ℕ) : EReal :=
  Ideal.pow (Ideal.ofBits .f32 0x461C4000#32)
    (Ideal.div (-(Ideal.ofBits .f32 0x40000000#32 * FloatOps.sitofp (F := Ideal) .f32 (BitVec.ofNat 32 i)))
      (Ideal.ofBits .f32 0x43000000#32))

/-- The angle by which position `p` turns pair `i` of lanes. -/
def angle (p : BitVec 32) (i : ℕ) : EReal := FloatOps.sitofp (F := Ideal) .f32 p * freq i

/-- Lane `l` of a head `v` turned by position `p`: each even lane with the odd lane after it. -/
def rope (p : BitVec 32) (v : Fin 128 → EReal) (l : Fin 128) : EReal :=
  if l.val % 2 = 0 then
    v l * Ideal.cos (angle p (l.val / 2)) - v ⟨(l.val + 1) % 128, by omega⟩ * Ideal.sin (angle p (l.val / 2))
  else
    v ⟨(l.val + 127) % 128, by omega⟩ * Ideal.sin (angle p (l.val / 2)) + v l * Ideal.cos (angle p (l.val / 2))

/-! ## The three results of the arguments -/

section Results

variable (x : Vec Ideal ⟨3, ![2, 4096, 7168]⟩ .bf16) (w : Vec Ideal ⟨1, ![7168]⟩ .f32) (p : Vec Ideal ⟨2, ![2, 4096]⟩ .i32)
  (W : Vec Ideal ⟨2, ![896, 10240]⟩ .i32) (S : Vec Ideal ⟨2, ![56, 10240]⟩ .bf16) (Z : Vec Ideal ⟨2, ![56, 10240]⟩ .i8)

/-- The projection of row `s` of batch entry `b` to column `n`. -/
def proj (b : Fin 2) (s : Fin 4096) (n : Fin 10240) : EReal :=
  col (rms (fun k => x (ix3 b s k)) (fun k => w (ix1 k))) (fun a n => W (ix2 a n)) (fun g n => S (ix2 g n)) (fun g n => Z (ix2 g n)) n

/-- A query: a head of the first 8192 columns, turned. -/
def query (b : Fin 2) (s : Fin 4096) (h : Fin 64) (l : Fin 128) : EReal :=
  rope (p (ix2 b s)) (fun l' => proj x w W S Z b s ⟨h.val * 128 + l'.val, by omega⟩) l

/-- A key: a head of the next 1024 columns, turned. -/
def key (b : Fin 2) (s : Fin 4096) (h : Fin 8) (l : Fin 128) : EReal :=
  rope (p (ix2 b s)) (fun l' => proj x w W S Z b s ⟨8192 + h.val * 128 + l'.val, by omega⟩) l

/-- A value: a head of the last 1024 columns. -/
def value (b : Fin 2) (s : Fin 4096) (h : Fin 8) (l : Fin 128) : EReal :=
  proj x w W S Z b s ⟨9216 + h.val * 128 + l.val, by omega⟩

end Results

/-! ## Small equations the two programs' spellings need -/

/-- A lane index is even exactly when its remainder, taken in 32-bit words with the sign corrected, is zero. -/
theorem even_word (l : Fin 128) :
    IntOp.cmpi .eq
      (Scalar.select
        (IntOp.andi
          (IntOp.xori
            (IntOp.cmpi .slt
              (IntOp.remsi ArithUnit.vector (BitVec.ofNat 32 l.val) (Scalar.select (Scalar.cmpi .eq 2#32 0#32) 1#32 2#32)) 0#32)
            (Scalar.cmpi .slt (Scalar.select (Scalar.cmpi .eq 2#32 0#32) 1#32 2#32) 0#32))
          (IntOp.cmpi .ne
            (IntOp.remsi ArithUnit.vector (BitVec.ofNat 32 l.val) (Scalar.select (Scalar.cmpi .eq 2#32 0#32) 1#32 2#32)) 0#32))
        (IntOp.addi
          (IntOp.remsi ArithUnit.vector (BitVec.ofNat 32 l.val) (Scalar.select (Scalar.cmpi .eq 2#32 0#32) 1#32 2#32))
          (Scalar.select (Scalar.cmpi .eq 2#32 0#32) 1#32 2#32))
        (IntOp.remsi ArithUnit.vector (BitVec.ofNat 32 l.val) (Scalar.select (Scalar.cmpi .eq 2#32 0#32) 1#32 2#32)))
      0#32 = if l.val % 2 = 0 then 1#1 else 0#1 := by
  revert l; decide +kernel

/-- A shift by a field's four bits is the same on the kernel's unit and on the host's. -/
theorem shift_field (w : BitVec 32) (f : ℕ) (hf : f < 8) :
    IntOp.shrsi ArithUnit.vector w (IntOp.muli 4#32 (BitVec.ofNat 32 f)) = IntOp.shrsi .host w (BitVec.ofNat 32 (4 * f)) := by
  interval_cases f <;> rfl

/-- A scalar choice by a decided bit. -/
theorem select_ite {α : Type} (p : Prop) [Decidable p] (a b : α) :
    Scalar.select (if p then 1#1 else 0#1) a b = if p then a else b := by
  split <;> rfl

/-- A sum over the 7168 rows, by field, group and word: row `g * 128 + r * 8 + f`. -/
theorem sum_fields (f : Fin 7168 → EReal) :
    ∑ k, f k = ∑ e : Fin 8, ∑ g : Fin 56, ∑ r : Fin 16, f ⟨(g.val * 16 + r.val) * 8 + e.val, by omega⟩ := by
  rw [Fin.sum_univ_tiles 896 8 (by decide) f, Finset.sum_comm]
  refine Finset.sum_congr rfl fun e _ => ?_
  rw [Fin.sum_univ_tiles 56 16 (by decide)]

end Cert.Closed
-- ==== Proof.Ideal.NormValue.lean ====
/-
  What one point of the normalisation computes, element by element over the extended reals.
-/
module

public import proofs.«01_k».proof.Proof.Ideal.Norm
public import proofs.«01_k».proof.Proof.Closed

@[expose] public section

noncomputable section

namespace Cert.KernelIdeal.Own

open Cert.KernelIdeal Cert.KernelIdeal.Gen
open Idealize.ShloMosaic Idealize.ShloMosaic.TcCoe

set_option maxRecDepth 16384
set_option maxHeartbeats 400000

/-- The normalised block. -/
theorem norm_at (x : Vec Ideal S256x7168 .bf16) (w : Vec Ideal S1x7168 .f32) (r : Fin 256) (k : Fin 7168) :
    (k0_pay2 (F := Ideal) x w (ix2 r k) : EReal) = Closed.rms (fun l => x (ix2 r l)) (fun l => w (ix2 0 l)) k := by
  pointwise [k0_pay2]
  rfl

/-- The cosine block. -/
theorem cos_at (x : Vec Ideal S256x1 .i32) (w : Vec Ideal S1x128 .f32) (r : Fin 256) (l : Fin 128) :
    (k0_pay5 (F := Ideal) x w (ix2 r l) : EReal)
      = Ideal.cos (FloatOps.sitofp (F := Ideal) .f32 (x (ix2 r 0)) * (w (ix2 0 l) : EReal)) := by
  pointwise [k0_pay5, k0_pay3]

/-- The sine block: negated on the even lanes. -/
theorem sin_at (x : Vec Ideal S256x1 .i32) (w : Vec Ideal S1x128 .f32) (r : Fin 256) (l : Fin 128) :
    (signedSin (F := Ideal) x w (ix2 r l) : EReal)
      = if l.val % 2 = 0 then 0 - Ideal.sin (FloatOps.sitofp (F := Ideal) .f32 (x (ix2 r 0)) * (w (ix2 0 l) : EReal))
        else Ideal.sin (FloatOps.sitofp (F := Ideal) .f32 (x (ix2 r 0)) * (w (ix2 0 l) : EReal)) := by
  pointwise [signedSin, k0_pay1, k0_pay3, k0_pay4, k0_pay6, k0_pay7]
  rw [Closed.even_word, Closed.select_ite]

end Cert.KernelIdeal.Own
-- ==== Proof.Ideal.NormArrays.lean ====
/-
  What the normalisation leaves in its three result arrays, over the extended reals.
-/
module

public import proofs.«01_k».proof.Proof.Ideal.Blocks
public import proofs.«01_k».proof.Proof.Ideal.NormValue

@[expose] public section

noncomputable section

namespace Cert.KernelIdeal.Own

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

set_option maxRecDepth 16384
set_option maxHeartbeats 400000

/-- The normalised rows. -/
def normArr (c : Dev nD) : Vec Ideal S8192x7168 .bf16 := fun i =>
  Closed.rms (fun l => (V c main_v11 : Vec Ideal S8192x7168 .bf16) (ix2 (i 0) l)) (fun l => (V c main_v12 : Vec Ideal S1x7168 .f32) (ix2 0 l)) (i 1)

/-- The angle of a row's position at a lane. -/
def angleAt (c : Dev nD) (r : Fin 8192) (l : Fin 128) : EReal :=
  FloatOps.sitofp (F := Ideal) .f32 ((V c main_v13 : Vec Ideal S8192x1 .i32) (ix2 r 0)) * ((V c main_v10 : Vec Ideal S1x128 .f32) (ix2 0 l) : EReal)

/-- The cosines. -/
def cosArr (c : Dev nD) : Vec Ideal S8192x128 .f32 := fun i => Ideal.cos (angleAt V c (i 0) (i 1))

/-- The sines, negated on the even lanes. -/
def sinArr (c : Dev nD) : Vec Ideal S8192x128 .f32 := fun i =>
  if (i 1).val % 2 = 0 then 0 - Ideal.sin (angleAt V c (i 0) (i 1)) else Ideal.sin (angleAt V c (i 0) (i 1))

set_option maxHeartbeats 1000000 in
/-- The first result holds the normalised rows. -/
theorem arr0_4 (c : Dev nD) : ((dat0 (Ix := Ix) (U := U) (Lvl := Lvl) V D) c).arrAt 4 cfg0.N = normArr V c := by
  refine ((dat0 (Ix := Ix) (U := U) (Lvl := Lvl) V D) c).arrAt_eq_of_covers 4 _ (by decide +kernel) fun t hf y => ?_
  blk_simp
  obtain ⟨r, k, rfl⟩ : ∃ (r : Fin 256) (k : Fin 7168), y = ix2 r k := ⟨y 0, y 1, eq_ix2 y⟩
  have ht : t.val < 32 := t.isLt
  have e : (win0_4.blk t).view.emb (ix2 r k) = (ix2 ⟨t.val * 256 + r.val, by omega⟩ k : S8192x7168.Idx) := by blk_ext [idx0 t]
  rw [e]
  refine (norm_at (iblk0 V c 0 t) (iblk0 V c 1 t) r k).trans ?_
  simp only [iblk0_x, iblk0_w]
  rfl

/-- The second holds the cosines. -/
theorem arr0_5 (c : Dev nD) : ((dat0 (Ix := Ix) (U := U) (Lvl := Lvl) V D) c).arrAt 5 cfg0.N = cosArr V c := by
  refine ((dat0 (Ix := Ix) (U := U) (Lvl := Lvl) V D) c).arrAt_eq_of_covers 5 _ (by decide +kernel) fun t hf y => ?_
  blk_simp
  obtain ⟨r, k, rfl⟩ : ∃ (r : Fin 256) (k : Fin 128), y = ix2 r k := ⟨y 0, y 1, eq_ix2 y⟩
  have ht : t.val < 32 := t.isLt
  have e : (win0_5.blk t).view.emb (ix2 r k) = (ix2 ⟨t.val * 256 + r.val, by omega⟩ k : S8192x128.Idx) := by blk_ext [idx0 t]
  rw [e]
  refine (cos_at (iblk0 V c 2 t) (iblk0 V c 3 t) r k).trans ?_
  simp only [iblk0_p, iblk0_f]
  rfl

/-- The third holds the signed sines. -/
theorem arr0_6 (c : Dev nD) : ((dat0 (Ix := Ix) (U := U) (Lvl := Lvl) V D) c).arrAt 6 cfg0.N = sinArr V c := by
  refine ((dat0 (Ix := Ix) (U := U) (Lvl := Lvl) V D) c).arrAt_eq_of_covers 6 _ (by decide +kernel) fun t hf y => ?_
  blk_simp
  obtain ⟨r, k, rfl⟩ : ∃ (r : Fin 256) (k : Fin 128), y = ix2 r k := ⟨y 0, y 1, eq_ix2 y⟩
  have ht : t.val < 32 := t.isLt
  have e : (win0_6.blk t).view.emb (ix2 r k) = (ix2 ⟨t.val * 256 + r.val, by omega⟩ k : S8192x128.Idx) := by blk_ext [idx0 t]
  rw [e]
  refine (sin_at (iblk0 V c 2 t) (iblk0 V c 3 t) r k).trans ?_
  simp only [iblk0_p, iblk0_f]
  rfl

end Cert.KernelIdeal.Own
-- ==== Proof.Ideal.ProjValue.lean ====
/-
  What one point of the projection computes, element by element over the extended reals.
-/
module

public import proofs.«01_k».proof.Proof.Ideal.Proj
public import proofs.«01_k».proof.Proof.Closed

@[expose] public section

noncomputable section

namespace Cert.KernelIdeal.Own

open Cert.KernelIdeal Cert.KernelIdeal.Gen
open Idealize.ShloMosaic Idealize.ShloMosaic.TcCoe

set_option maxRecDepth 16384
set_option maxHeartbeats 400000

/-- One group of the dequantised tile. -/
theorem group_at (x : Vec Ideal S16x1024 .i32) (z : Vec Ideal S1x1024 .i8) (s : Vec Ideal S1x1024 .bf16) (r : Fin 128) (n : Fin 1024) :
    (k1_pay2 (F := Ideal) x z s (ix2 r n) : EReal)
      = Closed.dequant (x (ix2 ⟨r.val / 8, by omega⟩ n)) (r.val % 8) (z (ix2 0 n)) (s (ix2 0 n)) := by
  pointwise [k1_pay2]
  rw [Closed.shift_field _ _ (by omega)]
  rfl

/-- The dequantised tile. -/
theorem deqTile_at (x1 : Vec Ideal S896x1024 .i32) (x2 : Vec Ideal S56x1024 .bf16) (x3 : Vec Ideal S56x1024 .i8)
    (k : Fin 7168) (n : Fin 1024) :
    (deqTile (F := Ideal) x1 x2 x3 (ix2 k n) : EReal)
      = Closed.dequant (x1 (ix2 ⟨k.val / 8, by omega⟩ n)) (k.val % 8) (x3 (ix2 ⟨k.val / 128, by omega⟩ n))
          (x2 (ix2 ⟨k.val / 128, by omega⟩ n)) := by
  have e : (fun d => ⟨((ix2 k n : S7168x1024.Idx) d).val % S128x1024.size d, Nat.mod_lt _ (by revert d; decide)⟩ : S128x1024.Idx)
      = ix2 ⟨k.val % 128, by omega⟩ n := by
    funext d; refine Fin.ext ?_
    fin_cases d
    · rfl
    · exact Nat.mod_eq_of_lt n.isLt
  have hw : wordsAt x1 (k.val / 128 * 16) (ix2 ⟨k.val % 128 / 8, by omega⟩ n) = x1 (ix2 ⟨k.val / 8, by omega⟩ n) := by
    unfold wordsAt; congr 1; funext d; refine Fin.ext ?_
    fin_cases d
    · change (k.val / 128 * 16 + k.val % 128 / 8) % 896 = k.val / 8
      have := k.isLt; omega
    · change (0 + n.val) % 1024 = n.val
      have := n.isLt; omega
  have hr : ∀ {e : EltTy} (x : Vec Ideal S56x1024 e), rowAt x (k.val / 128) (ix2 0 n) = x (ix2 ⟨k.val / 128, by omega⟩ n) := by
    intro e x
    unfold rowAt; congr 1; funext d; refine Fin.ext ?_
    fin_cases d
    · change (k.val / 128 + 0) % 56 = k.val / 128
      have := k.isLt; omega
    · change (0 + n.val) % 1024 = n.val
      have := n.isLt; omega
  unfold deqTile
  rw [e]
  change (k1_pay2 (F := Ideal) (wordsAt x1 (k.val / 128 * 16)) (rowAt x3 (k.val / 128)) (rowAt x2 (k.val / 128)) _ : EReal) = _
  rw [group_at]
  simp only [hr]
  rw [hw]
  congr 1
  change k.val % 128 % 8 = k.val % 8
  omega

/-- The product of the normalised block with the dequantised tile. -/
theorem product_at (x : Vec Ideal S512x7168 .bf16) (d : Vec Ideal S7168x1024 .bf16) (r : Fin 512) (n : Fin 1024) :
    (k1_pay95 (F := Ideal) x d (ix2 r n) : EReal) = ∑ k, x (ix2 r k) * d (ix2 k n) := by
  pointwise [k1_pay95]

/-- Head `h` of a tile of columns, turned by a cosine and a sine row when `turn` holds. -/
def head (turn : BitVec 1) (a c s : Fin 128 → EReal) (l : Fin 128) : EReal :=
  Scalar.select turn (a l) (a l * c l + (if l.val % 2 = 0 then a ⟨(l.val + 1) % 128, by omega⟩ else a ⟨(l.val + 127) % 128, by omega⟩) * s l)

set_option maxHeartbeats 2000000 in
/-- The tile the body computes at a point. -/
theorem tileOut_at (i : grid1.Coords) (x : Vec Ideal S512x7168 .bf16) (d : Vec Ideal S7168x1024 .bf16) (c s : Vec Ideal S512x128 .f32)
    (r : Fin 512) (h : Fin 8) (l : Fin 128) :
    (tileOut (F := Ideal) i x d c s (ix3 r h l) : EReal)
      = head (Scalar.cmpi .eq (BitVec.ofNat 32 (i 0).val) 9#32)
          (fun l' => k1_pay95 (F := Ideal) x d (ix2 r ⟨h.val * 128 + l'.val, by omega⟩))
          (fun l' => c (ix2 r l')) (fun l' => s (ix2 r l')) l := by
  unfold tileOut
  pointwise [k1_pay1, k1_pay96, k1_pay97, k1_pay98, k1_pay99, k1_pay100, k1_pay101, k1_pay102, k1_pay103, k1_pay104, k1_pay105,
    k1_pay106, k1_pay107, k1_pay108, k1_pay109, k1_pay110]
  generalize k1_pay95 (F := Ideal) x d = P
  have e1 : l.val + 128 - 127 = l.val + 1 := by omega
  have e2 : l.val + 128 - 1 = l.val + 127 := by omega
  simp only [Closed.even_word, Closed.select_ite, e1, e2]
  unfold head
  fin_vals h with hk
  all_goals simp only [hk, Nat.reduceSub, Nat.reduceLT, Nat.reduceMul, Nat.zero_add, ↓reduceDIte]

end Cert.KernelIdeal.Own
-- ==== Proof.Ideal.ProjArrays.lean ====
/-
  What the projection leaves in its three result arrays, over the extended reals.
-/
module

public import proofs.«01_k».proof.Proof.Ideal.Blocks
public import proofs.«01_k».proof.Proof.Ideal.ProjValue

@[expose] public section

noncomputable section

namespace Cert.KernelIdeal.Own

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

set_option maxRecDepth 16384
set_option maxHeartbeats 400000

/-- The projection of a row to a column, from the arrays the region finds. -/
def colAt (c : Dev nD) (r : Fin 8192) (n : Fin 10240) : EReal :=
  Closed.col (fun k => (V c main_v14_0 : Vec Ideal S8192x7168 .bf16) (ix2 r k))
    (fun a n => (V c main_arg3 : Vec Ideal S896x10240 .i32) (ix2 a n))
    (fun g n => (V c main_arg4 : Vec Ideal S56x10240 .bf16) (ix2 g n))
    (fun g n => (V c main_arg5 : Vec Ideal S56x10240 .i8) (ix2 g n)) n

/-- A head of a row: its 128 columns from `o`, turned by the row's cosines and signed sines when `turn` holds. -/
def headAt (c : Dev nD) (turn : BitVec 1) (r : Fin 8192) (o : ℕ) (ho : o + 128 ≤ 10240) (l : Fin 128) : EReal :=
  head turn (fun l' => colAt V c r ⟨o + l'.val, by omega⟩)
    (fun l' => (V c main_v14_1 : Vec Ideal S8192x128 .f32) (ix2 r l'))
    (fun l' => (V c main_v14_2 : Vec Ideal S8192x128 .f32) (ix2 r l')) l

/-- The tile of a point: eight heads of 512 rows. -/
theorem tileAt_at (c : Dev nD) (t : Fin cfg1.N) (r : Fin 512) (h : Fin 8) (l : Fin 128) :
    (tileAt V c t (ix3 r h l) : EReal)
      = headAt V c (Scalar.cmpi .eq (BitVec.ofNat 32 (t.val / 16)) 9#32) ⟨t.val % 16 * 512 + r.val, by omega⟩
          (t.val / 16 * 1024 + h.val * 128) (by have : t.val < 160 := t.isLt; omega) l := by
  unfold tileAt headAt
  rw [tileOut_at, coord1]
  congr 1
  · funext l'
    rw [product_at]
    unfold colAt Closed.col
    refine Finset.sum_congr rfl fun k _ => ?_
    rw [iblk1_x]
    unfold wTile
    rw [deqTile_at, iblk1_w, iblk1_s, iblk1_z]
    unfold Closed.weight
    simp only [Nat.add_assoc]
  · funext l'; exact iblk1_c V c t r l'
  · funext l'; exact iblk1_n V c t r l'

/-- The queries. -/
def qArr (c : Dev nD) : Vec Ideal S8192x64x128 .bf16 := fun i =>
  headAt V c 0#1 (i 0) ((i 1).val * 128) (by have : (i 1).val < 64 := (i 1).isLt; omega) (i 2)

/-- The keys. -/
def kArr (c : Dev nD) : Vec Ideal S8192x8x128 .bf16 := fun i =>
  headAt V c 0#1 (i 0) (8192 + (i 1).val * 128) (by have : (i 1).val < 8 := (i 1).isLt; omega) (i 2)

/-- The values. -/
def vArr (c : Dev nD) : Vec Ideal S8192x8x128 .bf16 := fun i =>
  headAt V c 1#1 (i 0) (9216 + (i 1).val * 128) (by have : (i 1).val < 8 := (i 1).isLt; omega) (i 2)

/-- Only the last column tile is left as it is. -/
theorem turn_word : ∀ n : Fin 10, Scalar.cmpi .eq (BitVec.ofNat 32 n.val) 9#32 = if n.val = 9 then 1#1 else 0#1 := by decide

/-- A head at equal rows, columns and lane. -/
theorem headAt_congr (c : Dev nD) {u u' : BitVec 1} {r r' : Fin 8192} {o o' : ℕ} {ho : o + 128 ≤ 10240} {ho' : o' + 128 ≤ 10240}
    (l : Fin 128) (hu : u = u') (hr : r.val = r'.val) (e : o = o') : headAt V c u r o ho l = headAt V c u' r' o' ho' l := by
  subst hu; subst e; obtain rfl := Fin.ext hr; rfl

/-- The first result holds the queries. -/
theorem arr1_6 (c : Dev nD) : ((dat1 (Ix := Ix) (U := U) (Lvl := Lvl) V D) c).arrAt 6 cfg1.N = qArr V c := by
  refine ((dat1 (Ix := Ix) (U := U) (Lvl := Lvl) V D) c).arrAt_eq_of_covers 6 _ (by decide +kernel) fun t hf y => ?_
  blk_simp
  obtain ⟨r, h, l, rfl⟩ : ∃ (r : Fin 512) (h : Fin 8) (l : Fin 128), y = ix3 r h l := ⟨y 0, y 1, y 2, eq_ix3 y⟩
  have ht : t.val < 160 := t.isLt
  have e : (win1_6.blk t).view.emb (ix3 r h l) = (ix3 ⟨min t.val 127 % 16 * 512 + r.val, by omega⟩ ⟨min t.val 127 / 16 * 8 + h.val, by omega⟩ l : S8192x64x128.Idx) := by
    blk_ext [idx1 t]
  rw [e]
  refine (tileAt_at V c (upTo 127 (by decide) t) r h l).trans ?_
  unfold qArr
  refine headAt_congr V c l ?_ ?_ ?_
  · refine (turn_word ⟨min t.val 127 / 16, by omega⟩).trans ?_
    simp only
    rw [if_neg (by omega)]
  · change min t.val 127 % 16 * 512 + r.val = min t.val 127 % 16 * 512 + r.val
    omega
  · change min t.val 127 / 16 * 1024 + h.val * 128 = (min t.val 127 / 16 * 8 + h.val) * 128
    omega

/-- The second holds the keys. -/
theorem arr1_7 (c : Dev nD) : ((dat1 (Ix := Ix) (U := U) (Lvl := Lvl) V D) c).arrAt 7 cfg1.N = kArr V c := by
  refine ((dat1 (Ix := Ix) (U := U) (Lvl := Lvl) V D) c).arrAt_eq_of_covers 7 _ (by decide +kernel) fun t hf y => ?_
  have hl := flush7_live t hf
  blk_simp
  obtain ⟨r, h, l, rfl⟩ : ∃ (r : Fin 512) (h : Fin 8) (l : Fin 128), y = ix3 r h l := ⟨y 0, y 1, y 2, eq_ix3 y⟩
  have ht : t.val < 160 := t.isLt
  have e : (win1_7.blk t).view.emb (ix3 r h l) = (ix3 ⟨(min t.val 143 - 128) * 512 + r.val, by omega⟩ ⟨h.val, by omega⟩ l : S8192x8x128.Idx) := by
    blk_ext [idx1 t]
  rw [e]
  refine (tileAt_at V c (upTo 143 (by decide) t) r h l).trans ?_
  unfold kArr
  refine headAt_congr V c l ?_ ?_ ?_
  · refine (turn_word ⟨min t.val 143 / 16, by omega⟩).trans ?_
    simp only
    rw [if_neg (by omega)]
  · change min t.val 143 % 16 * 512 + r.val = (min t.val 143 - 128) * 512 + r.val
    omega
  · change min t.val 143 / 16 * 1024 + h.val * 128 = 8192 + h.val * 128
    omega

/-- The third holds the values. -/
theorem arr1_8 (c : Dev nD) : ((dat1 (Ix := Ix) (U := U) (Lvl := Lvl) V D) c).arrAt 8 cfg1.N = vArr V c := by
  refine ((dat1 (Ix := Ix) (U := U) (Lvl := Lvl) V D) c).arrAt_eq_of_covers 8 _ (by decide +kernel) fun t hf y => ?_
  have hl := flush8_live t hf
  blk_simp
  obtain ⟨r, h, l, rfl⟩ : ∃ (r : Fin 512) (h : Fin 8) (l : Fin 128), y = ix3 r h l := ⟨y 0, y 1, y 2, eq_ix3 y⟩
  have ht : t.val < 160 := t.isLt
  have e : (win1_8.blk t).view.emb (ix3 r h l) = (ix3 ⟨(t.val - 144) * 512 + r.val, by omega⟩ ⟨h.val, by omega⟩ l : S8192x8x128.Idx) := by
    blk_ext [idx1 t]
  rw [e]
  refine (tileAt_at V c t r h l).trans ?_
  unfold vArr
  refine headAt_congr V c l ?_ ?_ ?_
  · refine (turn_word ⟨t.val / 16, by omega⟩).trans ?_
    simp only
    rw [if_pos (by omega)]
  · change t.val % 16 * 512 + r.val = (t.val - 144) * 512 + r.val
    omega
  · change t.val / 16 * 1024 + h.val * 128 = 9216 + h.val * 128
    omega

end Cert.KernelIdeal.Own
-- ==== Proof.Ideal.Results.lean ====
/-
  The kernel's three results, element by element, as the mathematics of its arguments.
-/
module

public import proofs.«01_k».proof.Proof.Ideal.Run
public import proofs.«01_k».proof.Proof.Ideal.NormArrays
public import proofs.«01_k».proof.Proof.Ideal.ProjArrays
public import Idealize.ShloMosaic.Lib.Claim

@[expose] public section

noncomputable section

namespace Cert.KernelIdeal.Own

open Cert.KernelIdeal Cert.KernelIdeal.Gen
open Idealize.ShloMosaic Idealize.ShloMosaic.TcCoe
open Idealize.SL Idealize.SL.RA Idealize.SL.Sem
open Idealize.ShloMosaic.Pipeline (Dat Cfg Window)

variable (m : (ℓ : Loc nD τ sig) → Buf (Elt Ideal) ℓ)

set_option maxRecDepth 16384
set_option maxHeartbeats 400000

/-! ## The arrays the first call finds -/

theorem entry_x (c : Dev nD) (b : Fin 2) (s : Fin 4096) (k : Fin 7168) :
    (Ve0 m c main_v11 : Vec Ideal S8192x7168 .bf16) (ix2 ⟨b.val * 4096 + s.val, by omega⟩ k)
      = (m ((c.tc : Thread nD τ).loc main_arg0) : Vec Ideal S2x4096x7168 .bf16) (ix3 b s k) := by
  unfold Ve0 V1
  entry_read
  pointwise

theorem entry_w (c : Dev nD) (k : Fin 7168) :
    (Ve0 m c main_v12 : Vec Ideal S1x7168 .f32) (ix2 0 k) = (m ((c.tc : Thread nD τ).loc main_arg1) : Vec Ideal S7168 .f32) (ix1 k) := by
  unfold Ve0 V1
  entry_read
  pointwise

theorem entry_p (c : Dev nD) (b : Fin 2) (s : Fin 4096) :
    (Ve0 m c main_v13 : Vec Ideal S8192x1 .i32) (ix2 ⟨b.val * 4096 + s.val, by omega⟩ 0)
      = (m ((c.tc : Thread nD τ).loc main_arg2) : Vec Ideal S2x4096 .i32) (ix2 b s) := by
  unfold Ve0 V1
  entry_read
  pointwise

theorem entry_f (c : Dev nD) (l : Fin 128) :
    ((Ve0 m c main_v10 : Vec Ideal S1x128 .f32) (ix2 0 l) : EReal) = Closed.freq (l.val / 2) := by
  unfold Ve0 V1
  entry_read
  pointwise
  rfl

/-! ## The arrays the second call finds -/

/-- The kernel's row for row `s` of batch entry `b`. -/
abbrev rowOf (b : Fin 2) (s : Fin 4096) : Fin 8192 := ⟨b.val * 4096 + s.val, by omega⟩

theorem mid_x (c : Dev nD) (b : Fin 2) (s : Fin 4096) (k : Fin 7168) :
    ((Ve1 m c main_v14_0 : Vec Ideal S8192x7168 .bf16) (ix2 (rowOf b s) k) : EReal)
      = Closed.rms (fun k => (m ((c.tc : Thread nD τ).loc main_arg0) : Vec Ideal S2x4096x7168 .bf16) (ix3 b s k))
          (fun k => (m ((c.tc : Thread nD τ).loc main_arg1) : Vec Ideal S7168 .f32) (ix1 k)) k := by
  have h : (Ve1 m c main_v14_0 : Vec Ideal S8192x7168 .bf16) = normArr (Ve0 m) c :=
    (Pipeline.afterRegion_arr (d0 m c) (V1 m c) launch0.win.arr_inj 4).trans (arr0_4 (Ve0 m) noDue c)
  rw [h]
  unfold normArr
  congr 1
  · funext l; exact entry_x m c b s l
  · funext l; exact entry_w m c l

theorem angle_eq (c : Dev nD) (b : Fin 2) (s : Fin 4096) (l : Fin 128) :
    angleAt (Ve0 m) c (rowOf b s) l
      = Closed.angle ((m ((c.tc : Thread nD τ).loc main_arg2) : Vec Ideal S2x4096 .i32) (ix2 b s)) (l.val / 2) := by
  unfold angleAt Closed.angle
  rw [entry_p, entry_f]

theorem mid_c (c : Dev nD) (b : Fin 2) (s : Fin 4096) (l : Fin 128) :
    ((Ve1 m c main_v14_1 : Vec Ideal S8192x128 .f32) (ix2 (rowOf b s) l) : EReal)
      = Ideal.cos (Closed.angle ((m ((c.tc : Thread nD τ).loc main_arg2) : Vec Ideal S2x4096 .i32) (ix2 b s)) (l.val / 2)) := by
  have h : (Ve1 m c main_v14_1 : Vec Ideal S8192x128 .f32) = cosArr (Ve0 m) c :=
    (Pipeline.afterRegion_arr (d0 m c) (V1 m c) launch0.win.arr_inj 5).trans (arr0_5 (Ve0 m) noDue c)
  rw [h]
  exact congrArg Ideal.cos (angle_eq m c b s l)

theorem mid_s (c : Dev nD) (b : Fin 2) (s : Fin 4096) (l : Fin 128) :
    ((Ve1 m c main_v14_2 : Vec Ideal S8192x128 .f32) (ix2 (rowOf b s) l) : EReal)
      = if l.val % 2 = 0 then
          0 - Ideal.sin (Closed.angle ((m ((c.tc : Thread nD τ).loc main_arg2) : Vec Ideal S2x4096 .i32) (ix2 b s)) (l.val / 2))
        else Ideal.sin (Closed.angle ((m ((c.tc : Thread nD τ).loc main_arg2) : Vec Ideal S2x4096 .i32) (ix2 b s)) (l.val / 2)) := by
  have h : (Ve1 m c main_v14_2 : Vec Ideal S8192x128 .f32) = sinArr (Ve0 m) c :=
    (Pipeline.afterRegion_arr (d0 m c) (V1 m c) launch0.win.arr_inj 6).trans (arr0_6 (Ve0 m) noDue c)
  rw [h]
  rw [← angle_eq m c b s l]
  rfl

/-- An argument the first call does not write reaches the second as launched. -/
theorem mid_arg (c : Dev nD) (r : Ref sig .tc) (h1 : r ∉ hostOps0_W)
    (h2 : ∀ w, Pipeline.arrRef spec0 w = r → (cfg0.win w).isOut = false) : Ve1 m c r = m ((c.tc : Thread nD τ).loc r) :=
  (W2_of m c r h2).trans (V1_of m c r h1)

/-- The projection the kernel computes is the mathematics'. -/
theorem col_eq (c : Dev nD) (b : Fin 2) (s : Fin 4096) (n : Fin 10240) :
    colAt (Ve1 m) c (rowOf b s) n
      = Closed.proj (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)) b s n := by
  unfold colAt Closed.proj
  congr 1
  · funext k; exact mid_x m c b s k

/-- A turned head is the rotation: adding the partner times a negated sine is subtracting it. -/
theorem headAt_rope (c : Dev nD) (b : Fin 2) (s : Fin 4096) (o : ℕ) (ho : o + 128 ≤ 10240) (l : Fin 128) :
    headAt (Ve1 m) c 0#1 (rowOf b s) o ho l
      = Closed.rope ((m ((c.tc : Thread nD τ).loc main_arg2) : Vec Ideal S2x4096 .i32) (ix2 b s))
          (fun l' => Closed.proj (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg5))
            b s ⟨o + l'.val, by omega⟩) l := by
  unfold headAt head
  change _ * _ + _ * _ = _
  beta_reduce
  rw [mid_c, mid_s]
  simp only [col_eq]
  unfold Closed.rope
  split
  · rw [zero_sub, mul_neg, ← sub_eq_add_neg]
  · rw [add_comm]

/-! ## The three results -/

theorem result_q (c : Dev nD) (b : Fin 2) (s : Fin 4096) (h : Fin 64) (l : Fin 128) :
    ((W4 m c main_v16 : Vec Ideal S2x4096x64x128 .bf16) (ix4 b s h l) : EReal)
      = Closed.query (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) b s h l := by
  have e : (W3 m c main_v15_0 : Vec Ideal S8192x64x128 .bf16) = qArr (Ve1 m) c :=
    (Pipeline.afterRegion_arr (d1 m c) (W2 m c) launch1.win.arr_inj 6).trans (arr1_6 (Ve1 m) noDue c)
  unfold W4
  entry_read
  pointwise
  refine (congrFun e _).trans ?_
  exact headAt_rope m c b s (h.val * 128) _ l

theorem result_k (c : Dev nD) (b : Fin 2) (s : Fin 4096) (h : Fin 8) (l : Fin 128) :
    ((W4 m c main_v17 : Vec Ideal S2x4096x8x128 .bf16) (ix4 b s h l) : EReal)
      = Closed.key (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) b s h l := by
  have e : (W3 m c main_v15_1 : Vec Ideal S8192x8x128 .bf16) = kArr (Ve1 m) c :=
    (Pipeline.afterRegion_arr (d1 m c) (W2 m c) launch1.win.arr_inj 7).trans (arr1_7 (Ve1 m) noDue c)
  unfold W4
  entry_read
  pointwise
  refine (congrFun e _).trans ?_
  exact headAt_rope m c b s (8192 + h.val * 128) _ l

theorem result_v (c : Dev nD) (b : Fin 2) (s : Fin 4096) (h : Fin 8) (l : Fin 128) :
    ((W4 m c main_v18 : Vec Ideal S2x4096x8x128 .bf16) (ix4 b s h l) : EReal)
      = Closed.value (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)) b s h l := by
  have e : (W3 m c main_v15_2 : Vec Ideal S8192x8x128 .bf16) = vArr (Ve1 m) c :=
    (Pipeline.afterRegion_arr (d1 m c) (W2 m c) launch1.win.arr_inj 8).trans (arr1_8 (Ve1 m) noDue c)
  unfold W4
  entry_read
  pointwise
  refine (congrFun e _).trans ?_
  exact col_eq m c b s ⟨9216 + h.val * 128 + l.val, by omega⟩

end Cert.KernelIdeal.Own
-- ==== Proof.Reference.Results.lean ====
/-
  The reference's three results, element by element, as the same mathematics of its arguments.
-/
module

public import proofs.«01_k».proof.Proof.Gen.ReferenceIdeal.Run
public import proofs.«01_k».proof.Proof.Closed

@[expose] public section

noncomputable section

namespace Cert.ReferenceIdeal.Own

open Cert.ReferenceIdeal Cert.ReferenceIdeal.Gen Cert.ReferenceIdeal.Value
open Idealize.ShloMosaic Idealize.ShloMosaic.TcCoe

set_option maxRecDepth 16384
set_option maxHeartbeats 1000000

variable (V : Valuation τ sig (Elt Ideal))

/-- The arguments, as arrays. -/
abbrev argX : Vec Ideal S2x4096x7168 .bf16 := V (Proc.devRef .tc main_arg0)
abbrev argN : Vec Ideal S7168 .f32 := V (Proc.devRef .tc main_arg1)
abbrev argP : Vec Ideal S2x4096 .i32 := V (Proc.devRef .tc main_arg2)
abbrev argW : Vec Ideal S896x10240 .i32 := V (Proc.devRef .tc main_arg3)
abbrev argS : Vec Ideal S56x10240 .bf16 := V (Proc.devRef .tc main_arg4)
abbrev argZ : Vec Ideal S56x10240 .i8 := V (Proc.devRef .tc main_arg5)

/-- The normalised rows, eight fields to a word. -/
theorem norm_at (b : Fin 2) (s : Fin 4096) (a : Fin 896) (f : Fin 8) :
    ((res_main_v15 (F := Ideal) V : FVec Ideal S2x4096x896x8 .bf16) (ix4 b s a f) : EReal)
      = Closed.rms (fun k => argX V (ix3 b s k)) (fun k => argN V (ix1 k)) ⟨a.val * 8 + f.val, by omega⟩ := by
  pointwise [res_main_v15, res_main_v0]
  rfl

/-- The part of the projection field `f` contributes. -/
def part (b : Fin 2) (s : Fin 4096) (n : Fin 10240) (f : Fin 8) : EReal :=
  ∑ g : Fin 56, ∑ r : Fin 16,
    Closed.rms (fun k => argX V (ix3 b s k)) (fun k => argN V (ix1 k)) ⟨(g.val * 16 + r.val) * 8 + f.val, by omega⟩
      * Closed.dequant (argW V (ix2 ⟨g.val * 16 + r.val, by omega⟩ n)) f.val (argZ V (ix2 g n)) (argS V (ix2 g n))

/-- The reference's eight products, added in order. -/
theorem sum_at (b : Fin 2) (s : Fin 4096) (n : Fin 10240) :
    ((res_main_v138 (F := Ideal) V : FVec Ideal S2x4096x10240 .f32) (ix3 b s n) : EReal)
      = part V b s n 0 + part V b s n 1 + part V b s n 2 + part V b s n 3 + part V b s n 4 + part V b s n 5 + part V b s n 6
        + part V b s n 7 := by
  pointwise [res_main_v138, res_main_v108, res_main_v18, res_main_v19]
  simp only [norm_at]
  rfl

/-- Their sum is the projection. -/
theorem proj_at (b : Fin 2) (s : Fin 4096) (n : Fin 10240) :
    ((res_main_v138 (F := Ideal) V : FVec Ideal S2x4096x10240 .f32) (ix3 b s n) : EReal)
      = Closed.proj (argX V) (argN V) (argW V) (argS V) (argZ V) b s n := by
  rw [sum_at]
  unfold Closed.proj Closed.col
  rw [Closed.sum_fields, Fin.sum_univ_eight]
  have e : ∀ f : Fin 8, part V b s n f = ∑ g : Fin 56, ∑ r : Fin 16,
      Closed.rms (fun k => argX V (ix3 b s k)) (fun k => argN V (ix1 k)) ⟨(g.val * 16 + r.val) * 8 + f.val, by omega⟩
        * Closed.weight (fun a n => argW V (ix2 a n)) (fun g n => argS V (ix2 g n)) (fun g n => argZ V (ix2 g n))
            ⟨(g.val * 16 + r.val) * 8 + f.val, by omega⟩ n := fun f => by
    unfold part
    refine Finset.sum_congr rfl fun g _ => Finset.sum_congr rfl fun r _ => ?_
    unfold Closed.weight
    have h1 : ((g.val * 16 + r.val) * 8 + f.val) / 8 = g.val * 16 + r.val := by omega
    have h2 : ((g.val * 16 + r.val) * 8 + f.val) % 8 = f.val := by omega
    have h3 : ((g.val * 16 + r.val) * 8 + f.val) / 128 = g.val := by omega
    simp only [h1, h2, h3]
  simp only [e]

/-- The cosine and the sine of a pair of lanes. -/
theorem cos_at (b : Fin 2) (s : Fin 4096) (i : Fin 64) :
    ((res_main_v160 (F := Ideal) V : FVec Ideal S2x4096x1x64 .f32) (ix4 b s 0 i) : EReal)
      = Ideal.cos (Closed.angle (argP V (ix2 b s)) i.val) := by
  pointwise [res_main_v160, res_main_v158]
  rfl
theorem sin_at (b : Fin 2) (s : Fin 4096) (i : Fin 64) :
    ((res_main_v162 (F := Ideal) V : FVec Ideal S2x4096x1x64 .f32) (ix4 b s 0 i) : EReal)
      = Ideal.sin (Closed.angle (argP V (ix2 b s)) i.val) := by
  pointwise [res_main_v162, res_main_v158]
  rfl

end Cert.ReferenceIdeal.Own
-- ==== Proof.Reference.Turned.lean ====
/-
  The reference's three results, element by element. A head's even lanes and odd lanes are turned apart, as two arrays
  of half heads, and then laid back alternately; `interleave64`, `turnEven64` and `turnOdd64` name those steps for the
  64 query heads, and the same names with an 8 for the key heads.
-/
module

public import proofs.«01_k».proof.Proof.Gen.ReferenceIdeal.Run
public import proofs.«01_k».proof.Proof.Reference.Results

@[expose] public section

noncomputable section

namespace Cert.ReferenceIdeal.Own

open Cert.ReferenceIdeal Cert.ReferenceIdeal.Gen Cert.ReferenceIdeal.Value
open Idealize.ShloMosaic Idealize.ShloMosaic.TcCoe

set_option maxRecDepth 16384
set_option maxHeartbeats 1000000

variable (V : Valuation τ sig (Elt Ideal))

/-- A remainder by two below one is zero. -/
theorem ite_parity {α : Type} (n : ℕ) (a b : α) : (if _h : n % 2 < 1 then a else b) = if n % 2 = 0 then a else b := by
  by_cases h : n % 2 = 0
  · rw [dif_pos (by omega), if_pos h]
  · rw [dif_neg (by omega), if_neg h]

/-- Two arrays of half heads, lane by lane alternately. -/
def interleave64 (A B : FVec Ideal S2x4096x64x64 .f32) : FVec Ideal S2x4096x64x128 .f32 :=
  shapeCast S2x4096x64x128 (concatenate S2x4096x64x64x2 4
    [⟨S2x4096x64x64x1, broadcastInDim S2x4096x64x64x1 ![0, 1, 2, 3] bcast_S2x4096x64x64_S2x4096x64x64x1_0_1_2_3 A⟩,
      ⟨S2x4096x64x64x1, broadcastInDim S2x4096x64x64x1 ![0, 1, 2, 3] bcast_S2x4096x64x64_S2x4096x64x64x1_0_1_2_3 B⟩]
    concatenates_S2x4096x64x64x1_S2x4096x64x64x1_S2x4096x64x64x2_d4) shapeCasts_S2x4096x64x64x2_S2x4096x64x128

/-- An even lane comes from the first array, an odd one from the second, at half the lane's number. -/
theorem interleave64_at (A B : FVec Ideal S2x4096x64x64 .f32) (b : Fin 2) (s : Fin 4096) (h : Fin 64) (l : Fin 128) :
    (interleave64 A B (ix4 b s h l) : EReal)
      = if l.val % 2 = 0 then A (ix4 b s h ⟨l.val / 2, by omega⟩) else B (ix4 b s h ⟨l.val / 2, by omega⟩) := by
  pointwise [interleave64]
  exact ite_parity l.val (A (ix4 b s h ⟨l.val / 2, by omega⟩)) (B (ix4 b s h ⟨l.val / 2, by omega⟩))

/-- The half heads of the even lanes: each pair's first member times the cosine, less its second times the sine. -/
def turnEven64 (A B : FVec Ideal S2x4096x64x64 .f32) (C S : FVec Ideal S2x4096x1x64 .f32) : FVec Ideal S2x4096x64x64 .f32 :=
  subf (mulf A (broadcastInDim S2x4096x64x64 ![0, 1, 2, 3] bcast_S2x4096x1x64_S2x4096x64x64_0_1_2_3 C))
    (mulf B (broadcastInDim S2x4096x64x64 ![0, 1, 2, 3] bcast_S2x4096x1x64_S2x4096x64x64_0_1_2_3 S))

/-- The half heads of the odd lanes: the first member times the sine, plus the second times the cosine. -/
def turnOdd64 (A B : FVec Ideal S2x4096x64x64 .f32) (C S : FVec Ideal S2x4096x1x64 .f32) : FVec Ideal S2x4096x64x64 .f32 :=
  addf (mulf A (broadcastInDim S2x4096x64x64 ![0, 1, 2, 3] bcast_S2x4096x1x64_S2x4096x64x64_0_1_2_3 S))
    (mulf B (broadcastInDim S2x4096x64x64 ![0, 1, 2, 3] bcast_S2x4096x1x64_S2x4096x64x64_0_1_2_3 C))

theorem turnEven64_at (A B : FVec Ideal S2x4096x64x64 .f32) (C S : FVec Ideal S2x4096x1x64 .f32) (b : Fin 2) (s : Fin 4096) (h : Fin 64) (i : Fin 64) :
    (turnEven64 A B C S (ix4 b s h i) : EReal) = A (ix4 b s h i) * C (ix4 b s 0 i) - B (ix4 b s h i) * S (ix4 b s 0 i) := by
  pointwise [turnEven64]

theorem turnOdd64_at (A B : FVec Ideal S2x4096x64x64 .f32) (C S : FVec Ideal S2x4096x1x64 .f32) (b : Fin 2) (s : Fin 4096) (h : Fin 64) (i : Fin 64) :
    (turnOdd64 A B C S (ix4 b s h i) : EReal) = A (ix4 b s h i) * S (ix4 b s 0 i) + B (ix4 b s h i) * C (ix4 b s 0 i) := by
  pointwise [turnOdd64]

/-- The even lanes of a query head, before the turn. -/
theorem even64_at (b : Fin 2) (s : Fin 4096) (h : Fin 64) (i : Fin 64) :
    ((res_main_v165 (F := Ideal) V : FVec Ideal S2x4096x64x64 .f32) (ix4 b s h i) : EReal)
      = Closed.proj (argX V) (argN V) (argW V) (argS V) (argZ V) b s ⟨h.val * 128 + i.val * 2, by omega⟩ := by
  rw [← proj_at]
  pointwise [res_main_v165, res_main_v163]

/-- The odd lanes of a query head, before the turn. -/
theorem odd64_at (b : Fin 2) (s : Fin 4096) (h : Fin 64) (i : Fin 64) :
    ((res_main_v167 (F := Ideal) V : FVec Ideal S2x4096x64x64 .f32) (ix4 b s h i) : EReal)
      = Closed.proj (argX V) (argN V) (argW V) (argS V) (argZ V) b s ⟨h.val * 128 + i.val * 2 + 1, by omega⟩ := by
  rw [← proj_at]
  pointwise [res_main_v167, res_main_v163]

/-- The reference's queries, as its program composes them. -/
def resQ : FVec Ideal S2x4096x64x128 .bf16 :=
  truncf .bf16 (interleave64 (turnEven64 (res_main_v165 V) (res_main_v167 V) (res_main_v160 V) (res_main_v162 V))
    (turnOdd64 (res_main_v165 V) (res_main_v167 V) (res_main_v160 V) (res_main_v162 V))) bitsLt_bf16_f32

/-- The reference's queries are the closed form. -/
theorem result_query (b : Fin 2) (s : Fin 4096) (h : Fin 64) (l : Fin 128) :
    (resQ V (ix4 b s h l) : EReal) = Closed.query (argX V) (argN V) (argP V) (argW V) (argS V) (argZ V) b s h l := by
  unfold resQ
  rw [truncf_apply]
  change (interleave64 _ _ (ix4 b s h l) : EReal) = _
  rw [interleave64_at, turnEven64_at, turnOdd64_at]
  rw [even64_at, odd64_at, cos_at, sin_at]
  unfold Closed.query Closed.rope
  have hl : l.val < 128 := l.isLt
  split
  · rename_i e
    have e1 : h.val * 128 + l.val / 2 * 2 = h.val * 128 + l.val := by omega
    have e2 : h.val * 128 + l.val + 1 = h.val * 128 + (l.val + 1) % 128 := by omega
    simp only [e1, e2]
  · rename_i e
    have e1 : h.val * 128 + l.val / 2 * 2 = h.val * 128 + (l.val + 127) % 128 := by omega
    have e2 : h.val * 128 + (l.val + 127) % 128 + 1 = h.val * 128 + l.val := by omega
    simp only [e1, e2]

/-- Two arrays of half heads, lane by lane alternately. -/
def interleave8 (A B : FVec Ideal S2x4096x8x64 .f32) : FVec Ideal S2x4096x8x128 .f32 :=
  shapeCast S2x4096x8x128 (concatenate S2x4096x8x64x2 4
    [⟨S2x4096x8x64x1, broadcastInDim S2x4096x8x64x1 ![0, 1, 2, 3] bcast_S2x4096x8x64_S2x4096x8x64x1_0_1_2_3 A⟩,
      ⟨S2x4096x8x64x1, broadcastInDim S2x4096x8x64x1 ![0, 1, 2, 3] bcast_S2x4096x8x64_S2x4096x8x64x1_0_1_2_3 B⟩]
    concatenates_S2x4096x8x64x1_S2x4096x8x64x1_S2x4096x8x64x2_d4) shapeCasts_S2x4096x8x64x2_S2x4096x8x128

/-- An even lane comes from the first array, an odd one from the second, at half the lane's number. -/
theorem interleave8_at (A B : FVec Ideal S2x4096x8x64 .f32) (b : Fin 2) (s : Fin 4096) (h : Fin 8) (l : Fin 128) :
    (interleave8 A B (ix4 b s h l) : EReal)
      = if l.val % 2 = 0 then A (ix4 b s h ⟨l.val / 2, by omega⟩) else B (ix4 b s h ⟨l.val / 2, by omega⟩) := by
  pointwise [interleave8]
  exact ite_parity l.val (A (ix4 b s h ⟨l.val / 2, by omega⟩)) (B (ix4 b s h ⟨l.val / 2, by omega⟩))

/-- The half heads of the even lanes: each pair's first member times the cosine, less its second times the sine. -/
def turnEven8 (A B : FVec Ideal S2x4096x8x64 .f32) (C S : FVec Ideal S2x4096x1x64 .f32) : FVec Ideal S2x4096x8x64 .f32 :=
  subf (mulf A (broadcastInDim S2x4096x8x64 ![0, 1, 2, 3] bcast_S2x4096x1x64_S2x4096x8x64_0_1_2_3 C))
    (mulf B (broadcastInDim S2x4096x8x64 ![0, 1, 2, 3] bcast_S2x4096x1x64_S2x4096x8x64_0_1_2_3 S))

/-- The half heads of the odd lanes: the first member times the sine, plus the second times the cosine. -/
def turnOdd8 (A B : FVec Ideal S2x4096x8x64 .f32) (C S : FVec Ideal S2x4096x1x64 .f32) : FVec Ideal S2x4096x8x64 .f32 :=
  addf (mulf A (broadcastInDim S2x4096x8x64 ![0, 1, 2, 3] bcast_S2x4096x1x64_S2x4096x8x64_0_1_2_3 S))
    (mulf B (broadcastInDim S2x4096x8x64 ![0, 1, 2, 3] bcast_S2x4096x1x64_S2x4096x8x64_0_1_2_3 C))

theorem turnEven8_at (A B : FVec Ideal S2x4096x8x64 .f32) (C S : FVec Ideal S2x4096x1x64 .f32) (b : Fin 2) (s : Fin 4096) (h : Fin 8) (i : Fin 64) :
    (turnEven8 A B C S (ix4 b s h i) : EReal) = A (ix4 b s h i) * C (ix4 b s 0 i) - B (ix4 b s h i) * S (ix4 b s 0 i) := by
  pointwise [turnEven8]

theorem turnOdd8_at (A B : FVec Ideal S2x4096x8x64 .f32) (C S : FVec Ideal S2x4096x1x64 .f32) (b : Fin 2) (s : Fin 4096) (h : Fin 8) (i : Fin 64) :
    (turnOdd8 A B C S (ix4 b s h i) : EReal) = A (ix4 b s h i) * S (ix4 b s 0 i) + B (ix4 b s h i) * C (ix4 b s 0 i) := by
  pointwise [turnOdd8]

/-- The even lanes of a key head, before the turn. -/
theorem even8_at (b : Fin 2) (s : Fin 4096) (h : Fin 8) (i : Fin 64) :
    ((res_main_v185 (F := Ideal) V : FVec Ideal S2x4096x8x64 .f32) (ix4 b s h i) : EReal)
      = Closed.proj (argX V) (argN V) (argW V) (argS V) (argZ V) b s ⟨8192 + h.val * 128 + i.val * 2, by omega⟩ := by
  rw [← proj_at]
  pointwise [res_main_v185, res_main_v183]
  simp only [Nat.add_assoc]

/-- The odd lanes of a key head, before the turn. -/
theorem odd8_at (b : Fin 2) (s : Fin 4096) (h : Fin 8) (i : Fin 64) :
    ((res_main_v187 (F := Ideal) V : FVec Ideal S2x4096x8x64 .f32) (ix4 b s h i) : EReal)
      = Closed.proj (argX V) (argN V) (argW V) (argS V) (argZ V) b s ⟨8192 + h.val * 128 + i.val * 2 + 1, by omega⟩ := by
  rw [← proj_at]
  pointwise [res_main_v187, res_main_v183]
  simp only [Nat.add_assoc]

/-- The reference's keys, as its program composes them. -/
def resK : FVec Ideal S2x4096x8x128 .bf16 :=
  truncf .bf16 (interleave8 (turnEven8 (res_main_v185 V) (res_main_v187 V) (res_main_v160 V) (res_main_v162 V))
    (turnOdd8 (res_main_v185 V) (res_main_v187 V) (res_main_v160 V) (res_main_v162 V))) bitsLt_bf16_f32

/-- The reference's keys are the closed form. -/
theorem result_key (b : Fin 2) (s : Fin 4096) (h : Fin 8) (l : Fin 128) :
    (resK V (ix4 b s h l) : EReal) = Closed.key (argX V) (argN V) (argP V) (argW V) (argS V) (argZ V) b s h l := by
  unfold resK
  rw [truncf_apply]
  change (interleave8 _ _ (ix4 b s h l) : EReal) = _
  rw [interleave8_at, turnEven8_at, turnOdd8_at]
  rw [even8_at, odd8_at, cos_at, sin_at]
  unfold Closed.key Closed.rope
  have hl : l.val < 128 := l.isLt
  split
  · rename_i e
    have e1 : 8192 + h.val * 128 + l.val / 2 * 2 = 8192 + h.val * 128 + l.val := by omega
    have e2 : 8192 + h.val * 128 + l.val + 1 = 8192 + h.val * 128 + (l.val + 1) % 128 := by omega
    simp only [e1, e2]
  · rename_i e
    have e1 : 8192 + h.val * 128 + l.val / 2 * 2 = 8192 + h.val * 128 + (l.val + 127) % 128 := by omega
    have e2 : 8192 + h.val * 128 + (l.val + 127) % 128 + 1 = 8192 + h.val * 128 + l.val := by omega
    simp only [e1, e2]

/-- The reference's values, as its program composes them. -/
def resV : FVec Ideal S2x4096x8x128 .bf16 :=
  truncf .bf16 (shapeCast _ (extractStridedSlice S2x4096x1024 ![0, 0, 9216] (res_main_v138 V) slices_S2x4096x10240_S2x4096x1024_0_0_9216) shapeCasts_S2x4096x1024_S2x4096x8x128) bitsLt_bf16_f32

/-- The reference's values are the closed form. -/
theorem result_value (b : Fin 2) (s : Fin 4096) (h : Fin 8) (l : Fin 128) :
    (resV V (ix4 b s h l) : EReal) = Closed.value (argX V) (argN V) (argW V) (argS V) (argZ V) b s h l := by
  unfold Closed.value
  rw [← proj_at]
  pointwise [resV]
  simp only [Nat.add_assoc]

end Cert.ReferenceIdeal.Own
-- ==== Proof.Reference.Ends.lean ====
/-
  The reference's run, with its three results under the names of `Turned`.
-/
module

public import proofs.«01_k».proof.Proof.Reference.Turned
public import Idealize.ShloMosaic.Lib.StableHlo.RunHlo
public import Idealize.ShloMosaic.Lib.Quiescent

@[expose] public section

noncomputable section

namespace Cert.ReferenceIdeal.Own

open Cert.ReferenceIdeal Cert.ReferenceIdeal.Gen
open Idealize.ShloMosaic Idealize.ShloMosaic.TcCoe Idealize.ShloMosaic.StableHlo
open Idealize.SL Idealize.SL.Sem

set_option maxRecDepth 16384
set_option maxHeartbeats 1000000

/-- The queries, spelled out. -/
theorem resQ_eq (V : Valuation τ sig (Elt Ideal)) : resQ V = (truncf .bf16 (shapeCast _ (concatenate S2x4096x64x64x2 4 [⟨S2x4096x64x64x1, (broadcastInDim S2x4096x64x64x1 ![0, 1, 2, 3] bcast_S2x4096x64x64_S2x4096x64x64x1_0_1_2_3 (subf (mulf (Value.res_main_v165 V) (broadcastInDim S2x4096x64x64 ![0, 1, 2, 3] bcast_S2x4096x1x64_S2x4096x64x64_0_1_2_3 (Value.res_main_v160 V))) (mulf (Value.res_main_v167 V) (broadcastInDim S2x4096x64x64 ![0, 1, 2, 3] bcast_S2x4096x1x64_S2x4096x64x64_0_1_2_3 (Value.res_main_v162 V)))))⟩, ⟨S2x4096x64x64x1, (broadcastInDim S2x4096x64x64x1 ![0, 1, 2, 3] bcast_S2x4096x64x64_S2x4096x64x64x1_0_1_2_3 (addf (mulf (Value.res_main_v165 V) (broadcastInDim S2x4096x64x64 ![0, 1, 2, 3] bcast_S2x4096x1x64_S2x4096x64x64_0_1_2_3 (Value.res_main_v162 V))) (mulf (Value.res_main_v167 V) (broadcastInDim S2x4096x64x64 ![0, 1, 2, 3] bcast_S2x4096x1x64_S2x4096x64x64_0_1_2_3 (Value.res_main_v160 V)))))⟩] concatenates_S2x4096x64x64x1_S2x4096x64x64x1_S2x4096x64x64x2_d4) shapeCasts_S2x4096x64x64x2_S2x4096x64x128) bitsLt_bf16_f32) := by
  unfold resQ interleave64 turnEven64 turnOdd64
  rfl

/-- The keys, spelled out. -/
theorem resK_eq (V : Valuation τ sig (Elt Ideal)) : resK V = (truncf .bf16 (shapeCast _ (concatenate S2x4096x8x64x2 4 [⟨S2x4096x8x64x1, (broadcastInDim S2x4096x8x64x1 ![0, 1, 2, 3] bcast_S2x4096x8x64_S2x4096x8x64x1_0_1_2_3 (subf (mulf (Value.res_main_v185 V) (broadcastInDim S2x4096x8x64 ![0, 1, 2, 3] bcast_S2x4096x1x64_S2x4096x8x64_0_1_2_3 (Value.res_main_v160 V))) (mulf (Value.res_main_v187 V) (broadcastInDim S2x4096x8x64 ![0, 1, 2, 3] bcast_S2x4096x1x64_S2x4096x8x64_0_1_2_3 (Value.res_main_v162 V)))))⟩, ⟨S2x4096x8x64x1, (broadcastInDim S2x4096x8x64x1 ![0, 1, 2, 3] bcast_S2x4096x8x64_S2x4096x8x64x1_0_1_2_3 (addf (mulf (Value.res_main_v185 V) (broadcastInDim S2x4096x8x64 ![0, 1, 2, 3] bcast_S2x4096x1x64_S2x4096x8x64_0_1_2_3 (Value.res_main_v162 V))) (mulf (Value.res_main_v187 V) (broadcastInDim S2x4096x8x64 ![0, 1, 2, 3] bcast_S2x4096x1x64_S2x4096x8x64_0_1_2_3 (Value.res_main_v160 V)))))⟩] concatenates_S2x4096x8x64x1_S2x4096x8x64x1_S2x4096x8x64x2_d4) shapeCasts_S2x4096x8x64x2_S2x4096x8x128) bitsLt_bf16_f32) := by
  unfold resK interleave8 turnEven8 turnOdd8
  rfl

/-- The reference ends with its queries, keys and values in its three result arrays and its arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v182) = resQ (launchContents m c)
      ∧ r.2.mem ((c.tc : Thread nD τ).loc main_v202) = resK (launchContents m c)
      ∧ r.2.mem ((c.tc : Thread nD τ).loc main_v203) = resV (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run_mono (Value.run m ρ)) fun _ h c =>
    ⟨(h c).1.trans (resQ_eq _).symm, (h c).2.1.trans (resK_eq _).symm, (h c).2.2⟩

end Cert.ReferenceIdeal.Own
-- ==== Proof.Equation.lean ====
/-
  The equation: from arguments that agree, the kernel's three result arrays and the reference's are equal, element by
  element, since both are the closed form of `Closed`.
-/
module

public import proofs.«01_k».proof.Proof.Ideal.Results
public import proofs.«01_k».proof.Proof.Reference.Ends

@[expose] public section

noncomputable section

namespace Cert.Equation

open Idealize.ShloMosaic Idealize.ShloMosaic.TcCoe Idealize.ShloMosaic.StableHlo

set_option maxRecDepth 16384
set_option maxHeartbeats 400000

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)
variable (c : Dev KernelIdeal.nD)

/-- The two programs' arguments agree on device `c`. -/
structure Agree : Prop where
  x : m' ((c.tc : Thread ReferenceIdeal.nD ReferenceIdeal.τ).loc ReferenceIdeal.main_arg0) = m ((c.tc : Thread KernelIdeal.nD KernelIdeal.τ).loc KernelIdeal.main_arg0)
  w : m' ((c.tc : Thread ReferenceIdeal.nD ReferenceIdeal.τ).loc ReferenceIdeal.main_arg1) = m ((c.tc : Thread KernelIdeal.nD KernelIdeal.τ).loc KernelIdeal.main_arg1)
  p : m' ((c.tc : Thread ReferenceIdeal.nD ReferenceIdeal.τ).loc ReferenceIdeal.main_arg2) = m ((c.tc : Thread KernelIdeal.nD KernelIdeal.τ).loc KernelIdeal.main_arg2)
  words : m' ((c.tc : Thread ReferenceIdeal.nD ReferenceIdeal.τ).loc ReferenceIdeal.main_arg3) = m ((c.tc : Thread KernelIdeal.nD KernelIdeal.τ).loc KernelIdeal.main_arg3)
  scale : m' ((c.tc : Thread ReferenceIdeal.nD ReferenceIdeal.τ).loc ReferenceIdeal.main_arg4) = m ((c.tc : Thread KernelIdeal.nD KernelIdeal.τ).loc KernelIdeal.main_arg4)
  zero : m' ((c.tc : Thread ReferenceIdeal.nD ReferenceIdeal.τ).loc ReferenceIdeal.main_arg5) = m ((c.tc : Thread KernelIdeal.nD KernelIdeal.τ).loc KernelIdeal.main_arg5)

variable {m m' c}

/-- The queries are equal. -/
theorem queries (h : Agree m m' c) :
    ReferenceIdeal.Own.resQ (launchContents m' c) = (KernelIdeal.Own.W4 m c KernelIdeal.main_v16 : Vec Ideal KernelIdeal.S2x4096x64x128 .bf16) := by
  funext i
  rw [eq_ix4 i]
  refine (ReferenceIdeal.Own.result_query (launchContents m' c) _ _ _ _).trans (Eq.trans ?_ (KernelIdeal.Own.result_q m c _ _ _ _).symm)
  rw [← h.x, ← h.w, ← h.p, ← h.words, ← h.scale, ← h.zero]

/-- The keys are equal. -/
theorem keys (h : Agree m m' c) :
    ReferenceIdeal.Own.resK (launchContents m' c) = (KernelIdeal.Own.W4 m c KernelIdeal.main_v17 : Vec Ideal KernelIdeal.S2x4096x8x128 .bf16) := by
  funext i
  rw [eq_ix4 i]
  refine (ReferenceIdeal.Own.result_key (launchContents m' c) _ _ _ _).trans (Eq.trans ?_ (KernelIdeal.Own.result_k m c _ _ _ _).symm)
  rw [← h.x, ← h.w, ← h.p, ← h.words, ← h.scale, ← h.zero]

/-- The values are equal. -/
theorem values (h : Agree m m' c) :
    ReferenceIdeal.Own.resV (launchContents m' c) = (KernelIdeal.Own.W4 m c KernelIdeal.main_v18 : Vec Ideal KernelIdeal.S2x4096x8x128 .bf16) := by
  funext i
  rw [eq_ix4 i]
  refine (ReferenceIdeal.Own.result_value (launchContents m' c) _ _ _ _).trans (Eq.trans ?_ (KernelIdeal.Own.result_v m c _ _ _ _).symm)
  rw [← h.x, ← h.w, ← h.words, ← h.scale, ← h.zero]

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Bits.Run
public import proofs.«01_k».proof.Proof.Ideal.Run
public import proofs.«01_k».proof.Proof.Equation
public import Idealize.ShloMosaic.Adequacy
public import Idealize.ShloMosaic.Init

@[expose] public section

noncomputable section

namespace Cert.Proof

open Idealize.ShloMosaic Idealize.SL.Sem

set_option maxRecDepth 16384

/-- The kernel runs, leaves its arguments and ends with every counter at zero. -/
theorem frame_kernel : quiescent_Kernel (hKernel := Cert.Kernel.Gen.facts) := fun m g _ =>
  (θ_run_mono (Cert.Kernel.Own.run_values (F := Bits) m g)) fun _ h => ⟨fun c => (h.1 c).2.2.2, h.2⟩

/-- So does the kernel over the reals. -/
theorem frame_kernelIdeal : quiescent_KernelIdeal (hKernelIdeal := Cert.KernelIdeal.Gen.facts) := fun m g _ =>
  (θ_run_mono (Cert.KernelIdeal.Own.run_values (F := Ideal) m g)) fun _ h => ⟨fun c => (h.1 c).2.2.2, h.2⟩

/-- So does the reference, which has no counters. -/
theorem frame_reference : quiescent_ReferenceIdeal (hReferenceIdeal := Cert.ReferenceIdeal.Gen.facts) := fun m g _ =>
  (θ_run_mono (Cert.ReferenceIdeal.Own.run_values m g)) fun r h =>
    ⟨fun c => (h c).2.2.2, Idealize.ShloMosaic.sem_eq_zero_of_no_sems (by decide) r.2⟩

/-- Over the reals the kernel's queries, keys and values are the reference's. -/
theorem equal : algebraic_KernelIdeal_ReferenceIdeal (hKernelIdeal := Cert.KernelIdeal.Gen.facts)
    (hReferenceIdeal := Cert.ReferenceIdeal.Gen.facts) := fun m g m' g' _ agree => by
  have ag : ∀ c, Equation.Agree m m' c := fun c =>
    ⟨(agree c).1, (agree c).2.1, (agree c).2.2.1, (agree c).2.2.2.1, (agree c).2.2.2.2.1, (agree c).2.2.2.2.2⟩
  refine ⟨fun c => Cert.KernelIdeal.Own.W4 m c (Proc.devRef .tc Cert.KernelIdeal.main_v16),
    fun c => Cert.KernelIdeal.Own.W4 m c (Proc.devRef .tc Cert.KernelIdeal.main_v17),
    fun c => Cert.KernelIdeal.Own.W4 m c (Proc.devRef .tc Cert.KernelIdeal.main_v18), ?_, ?_⟩
  · exact (θ_run_mono (Cert.KernelIdeal.Own.run_values (F := Ideal) m g)) fun _ h => h.1
  · exact (θ_run_mono (Cert.ReferenceIdeal.Own.run_values m' g')) fun _ h c =>
      ⟨(h c).1.trans (Equation.queries (ag c)), (h c).2.1.trans (Equation.keys (ag c)),
        (h c).2.2.1.trans (Equation.values (ag c)), (h c).2.2.2⟩

theorem claim : Cert.Claim := ⟨Cert.Kernel.Gen.facts, Cert.KernelIdeal.Gen.facts, Cert.ReferenceIdeal.Gen.facts,
  frame_kernel, frame_kernelIdeal, frame_reference, trivial, equal⟩

end Cert.Proof

end
